-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_hardest_do_not_tie [hPre_hardest_do_not_tie : Cert.Pre_hardest_do_not_tie.Facts] (m : (ℓ : Loc Cert.KernelIdeal.nD Cert.KernelIdeal.τ Cert.KernelIdeal.sig) → Buf (Elt Ideal) ℓ) : Prop :=
  ∀ c : Dev Cert.KernelIdeal.nD,
    (Cert.Pre_hardest_do_not_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).1 = (fun _ => 1#1)
    ∧ (Cert.Pre_hardest_do_not_tie.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_hardest_do_not_tie [hPre_hardest_do_not_tie : Cert.Pre_hardest_do_not_tie.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_hardest_do_not_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).1 = (fun _ => 1#1)
    ∧ (Cert.Pre_hardest_do_not_tie.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_hardest_do_not_tie [hKernelIdeal : Cert.KernelIdeal.Facts] [hPre_hardest_do_not_tie : Cert.Pre_hardest_do_not_tie.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_hardest_do_not_tie m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_hardest_do_not_tie [hReferenceIdeal : Cert.ReferenceIdeal.Facts] [hPre_hardest_do_not_tie : Cert.Pre_hardest_do_not_tie.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_hardest_do_not_tie m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_hardest_do_not_tie [hKernelIdeal : Cert.KernelIdeal.Facts] [hReferenceIdeal : Cert.ReferenceIdeal.Facts] [hPre_hardest_do_not_tie : Cert.Pre_hardest_do_not_tie.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_hardest_do_not_tie m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_hardest_do_not_tie : Cert.Pre_hardest_do_not_tie.Facts),
    quiescent_Kernel (hKernel := hKernel)
    ∧ quiescent_KernelIdeal (hKernelIdeal := hKernelIdeal)
    ∧ quiescent_KernelIdeal_pre_hardest_do_not_tie (hKernelIdeal := hKernelIdeal) (hPre_hardest_do_not_tie := hPre_hardest_do_not_tie)
    ∧ quiescent_ReferenceIdeal (hReferenceIdeal := hReferenceIdeal)
    ∧ quiescent_ReferenceIdeal_pre_hardest_do_not_tie (hReferenceIdeal := hReferenceIdeal) (hPre_hardest_do_not_tie := hPre_hardest_do_not_tie)
    ∧ preserves_Kernel_KernelIdeal
    ∧ algebraic_KernelIdeal_ReferenceIdeal_pre_hardest_do_not_tie (hKernelIdeal := hKernelIdeal) (hReferenceIdeal := hReferenceIdeal) (hPre_hardest_do_not_tie := hPre_hardest_do_not_tie)
-- ==== Pre_hardest_do_not_tie.lean ====
abbrev S262144x32 : Shape := ⟨2, ![262144, 32]⟩
abbrev S_ : Shape := ⟨0, ![]⟩
abbrev S65536x4x32 : Shape := ⟨3, ![65536, 4, 32]⟩
abbrev S4x32x65536 : Shape := ⟨3, ![4, 32, 65536]⟩
abbrev S4x32x16 : Shape := ⟨3, ![4, 32, 16]⟩
abbrev S32x262144 : Shape := ⟨2, ![32, 262144]⟩
abbrev S32x15 : Shape := ⟨2, ![32, 15]⟩
abbrev S32x1 : Shape := ⟨2, ![32, 1]⟩
abbrev S1x32x1 : Shape := ⟨3, ![1, 32, 1]⟩
abbrev S4x32x15 : Shape := ⟨3, ![4, 32, 15]⟩

class Facts : Prop where
  bcast_S_S262144x32 : S_.BroadcastsInDim S262144x32 (![] : Fin 0 → Fin S262144x32.rank)
  shapeCasts_S262144x32_S65536x4x32 : S262144x32.ShapeCasts S65536x4x32
  transposes_S65536x4x32_S4x32x65536_1_2_0 : S65536x4x32.Transposes [1, 2, 0] S4x32x65536
  sliceFits_S4x32x65536_S4x32x16 : S4x32x65536.Slices (fun _ => 0) S4x32x16
  transposes_S262144x32_S32x262144_1_0 : S262144x32.Transposes [1, 0] S32x262144
  sliceFits_S32x262144_S32x15 : S32x262144.Slices (fun _ => 0) S32x15
  slices_S32x15_S32x1_0_14 : S32x15.Slices ![0, 14] S32x1
  bcast_S32x1_S1x32x1_1_2 : S32x1.BroadcastsInDim S1x32x1 (![1, 2] : Fin 2 → Fin S1x32x1.rank)
  slices_S4x32x16_S4x32x15_0_0_0 : S4x32x16.Slices ![0, 0, 0] S4x32x15
  slices_S4x32x16_S4x32x15_0_0_1 : S4x32x16.Slices ![0, 0, 1] S4x32x15
  bcast_S1x32x1_S4x32x15_0_1_2 : S1x32x1.BroadcastsInDim S4x32x15 (![0, 1, 2] : Fin 3 → Fin S4x32x15.rank)

variable [Facts]

def fn_where {F : FTy → Type} [FloatOps F] (arg0 : IVec S262144x32 1) (arg1 : FVec F S262144x32 .f32) (arg2 : FVec F S262144x32 .f32) : FVec F S262144x32 .f32 :=
  let v0 : FVec F S262144x32 .f32 := select arg0 arg1 arg2
  v0

def fn_part1 {F : FTy → Type} [FloatOps F] (main_values : FVec F S4x32x16 .f32) (main_v8 : FVec F S1x32x1 .f32) (main_v13 : IVec S262144x32 1) (main_v16 : IVec S4x32x15 1) : IVec S262144x32 1 × IVec S4x32x15 1 :=
  let main_v17 : FVec F S4x32x15 .f32 := (extractStridedSlice S4x32x15 ![0, 0, 1] · slices_S4x32x16_S4x32x15_0_0_1) main_values
  let main_v18 : FVec F S4x32x15 .f32 := broadcastInDim S4x32x15 ![0, 1, 2] bcast_S1x32x1_S4x32x15_0_1_2 main_v8
  let main_v19 : IVec S4x32x15 1 := cmpf .olt main_v17 main_v18
  let main_v20 : IVec S4x32x15 1 := ori main_v16 main_v19
  (main_v13, main_v20)

def fn {F : FTy → Type} [FloatOps F] (main_arg0 : FVec F S262144x32 .f32) (main_arg1 : FVec F S262144x32 .f32) : IVec S262144x32 1 × IVec S4x32x15 1 :=
  let main_cst : FVec F S_ .f32 := constant S_ .f32 0x3F800000#32
  let main_v0 : FVec F S262144x32 .f32 := broadcastInDim S262144x32 ![] bcast_S_S262144x32 main_cst
  let main_v1 : IVec S262144x32 1 := cmpf .oeq main_arg1 main_v0
  let main_v2 : FVec F S262144x32 .f32 := Host.negf main_arg0
  let main_v3 : FVec F S262144x32 .f32 := fn_where (F := F) main_v1 main_v2 main_arg0
  let main_v4 : FVec F S65536x4x32 .f32 := shapeCast S65536x4x32 main_v3 shapeCasts_S262144x32_S65536x4x32
  let main_v5 : FVec F S4x32x65536 .f32 := (transpose S4x32x65536 [1, 2, 0] · transposes_S65536x4x32_S4x32x65536_1_2_0) main_v4
  let main_values : FVec F S4x32x16 .f32 := (fun x => (Host.topK S4x32x16 2 (FloatOps.cmpfTotal .gt) x sliceFits_S4x32x65536_S4x32x16).1) main_v5
  let main_indices : IVec S4x32x16 32 := (fun x => (Host.topK S4x32x16 2 (FloatOps.cmpfTotal .gt) x sliceFits_S4x32x65536_S4x32x16).2) main_v5
  let main_v6 : FVec F S32x262144 .f32 := (transpose S32x262144 [1, 0] · transposes_S262144x32_S32x262144_1_0) main_v3
  let main_values_0 : FVec F S32x15 .f32 := (fun x => (Host.topK S32x15 1 (FloatOps.cmpfTotal .gt) x sliceFits_S32x262144_S32x15).1) main_v6
  let main_indices_1 : IVec S32x15 32 := (fun x => (Host.topK S32x15 1 (FloatOps.cmpfTotal .gt) x sliceFits_S32x262144_S32x15).2) main_v6
  let main_v7 : FVec F S32x1 .f32 := (extractStridedSlice S32x1 ![0, 14] · slices_S32x15_S32x1_0_14) main_values_0
  let main_v8 : FVec F S1x32x1 .f32 := broadcastInDim S1x32x1 ![1, 2] bcast_S32x1_S1x32x1_1_2 main_v7
  let main_cst_2 : FVec F S_ .f32 := constant S_ .f32 0x00000000#32
  let main_v9 : FVec F S262144x32 .f32 := broadcastInDim S262144x32 ![] bcast_S_S262144x32 main_cst_2
  let main_v10 : IVec S262144x32 1 := cmpf .oeq main_arg1 main_v9
  let main_cst_3 : FVec F S_ .f32 := constant S_ .f32 0x3F800000#32
  let main_v11 : FVec F S262144x32 .f32 := broadcastInDim S262144x32 ![] bcast_S_S262144x32 main_cst_3
  let main_v12 : IVec S262144x32 1 := cmpf .oeq main_arg1 main_v11
  let main_v13 : IVec S262144x32 1 := ori main_v10 main_v12
  let main_v14 : FVec F S4x32x15 .f32 := (extractStridedSlice S4x32x15 ![0, 0, 0] · slices_S4x32x16_S4x32x15_0_0_0) main_values
  let main_v15 : FVec F S4x32x15 .f32 := (extractStridedSlice S4x32x15 ![0, 0, 1] · slices_S4x32x16_S4x32x15_0_0_1) main_values
  let main_v16 : IVec S4x32x15 1 := cmpf .ogt main_v14 main_v15
  fn_part1 (F := F) main_values main_v8 main_v13 main_v16
-- ==== Kernel.lean ====
abbrev S262144x32 : Shape := ⟨2, ![262144, 32]⟩
abbrev S65536x128 : Shape := ⟨2, ![65536, 128]⟩
abbrev S48x128 : Shape := ⟨2, ![48, 128]⟩
abbrev S2048x128 : Shape := ⟨2, ![2048, 128]⟩
abbrev S256x128 : Shape := ⟨2, ![256, 128]⟩
abbrev S304x128 : Shape := ⟨2, ![304, 128]⟩
abbrev S128 : Shape := ⟨1, ![128]⟩
abbrev S1x128 : Shape := ⟨2, ![1, 128]⟩
abbrev S6x128 : Shape := ⟨2, ![6, 128]⟩
abbrev S192x32 : Shape := ⟨2, ![192, 32]⟩
abbrev S1x1 : Shape := ⟨2, ![1, 1]⟩
abbrev S1x32 : Shape := ⟨2, ![1, 32]⟩
abbrev S32 : Shape := ⟨1, ![32]⟩
abbrev S1 : Shape := ⟨1, ![1]⟩
abbrev S_ : Shape := ⟨0, ![]⟩

abbrev nBuf : Space → Nat
  | .hbm => 8
  | .vmem => 7
  | .smem => 0
  | _ => 0

abbrev bufTy : (tb : Table) → Fin (tcTables nBuf tb) → BufTy
  | .hbm, ⟨0, _⟩ => ⟨S262144x32, .f32⟩
  | .hbm, ⟨1, _⟩ => ⟨S262144x32, .f32⟩
  | .hbm, ⟨2, _⟩ => ⟨S65536x128, .f32⟩
  | .hbm, ⟨3, _⟩ => ⟨S65536x128, .f32⟩
  | .hbm, ⟨4, _⟩ => ⟨S48x128, .f32⟩
  | .hbm, ⟨5, _⟩ => ⟨S192x32, .f32⟩
  | .hbm, ⟨6, _⟩ => ⟨S1x1, .f32⟩
  | .hbm, ⟨7, _⟩ => ⟨S_, .f32⟩
  | .local _ .vmem, ⟨0, _⟩ => ⟨S2048x128, .f32⟩
  | .local _ .vmem, ⟨1, _⟩ => ⟨S2048x128, .f32⟩
  | .local _ .vmem, ⟨2, _⟩ => ⟨S2048x128, .f32⟩
  | .local _ .vmem, ⟨3, _⟩ => ⟨S2048x128, .f32⟩
  | .local _ .vmem, ⟨4, _⟩ => ⟨S48x128, .f32⟩
  | .local _ .vmem, ⟨5, _⟩ => ⟨S192x32, .f32⟩
  | .local _ .vmem, ⟨6, _⟩ => ⟨S1x1, .f32⟩
  | _, _ => ⟨S262144x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc1_stg0_0 : Ref sig .tc := ⟨.vmem, 5, rfl⟩
abbrev cc1_stg1_0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem1_0 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2048x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S48x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev grid1 : Pipeline.Grid := .none

abbrev stage1_0 : Fin 1 → Memref sig .tc .vmem S192x32 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S1x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
-- ==== ReferenceIdeal.lean ====
abbrev S262144x32 : Shape := ⟨2, ![262144, 32]⟩
abbrev S_ : Shape := ⟨0, ![]⟩
abbrev S32x262144 : Shape := ⟨2, ![32, 262144]⟩
abbrev S32x15 : Shape := ⟨2, ![32, 15]⟩
abbrev S32 : Shape := ⟨1, ![32]⟩

abbrev nBuf : Space → Nat
  | .hbm => 47
  | .vmem => 0
  | .smem => 0
  | _ => 0

abbrev bufTy : (tb : Table) → Fin (tcTables nBuf tb) → BufTy
  | .hbm, ⟨0, _⟩ => ⟨S262144x32, .f32⟩
  | .hbm, ⟨1, _⟩ => ⟨S262144x32, .f32⟩
  | .hbm, ⟨2, _⟩ => ⟨S262144x32, .f32⟩
  | .hbm, ⟨3, _⟩ => ⟨S262144x32, .f32⟩
  | .hbm, ⟨4, _⟩ => ⟨S_, .f32⟩
  | .hbm, ⟨5, _⟩ => ⟨S262144x32, .f32⟩
  | .hbm, ⟨6, _⟩ => ⟨S262144x32, .f32⟩
  | .hbm, ⟨7, _⟩ => ⟨S_, .f32⟩
  | .hbm, ⟨8, _⟩ => ⟨S262144x32, .f32⟩
  | .hbm, ⟨9, _⟩ => ⟨S262144x32, .f32⟩
  | .hbm, ⟨10, _⟩ => ⟨S_, .f32⟩
  | .hbm, ⟨11, _⟩ => ⟨S262144x32, .f32⟩
  | .hbm, ⟨12, _⟩ => ⟨S262144x32, .i1⟩
  | .hbm, ⟨13, _⟩ => ⟨S_, .f32⟩
  | .hbm, ⟨14, _⟩ => ⟨S262144x32, .f32⟩
  | .hbm, ⟨15, _⟩ => ⟨S262144x32, .f32⟩
  | .hbm, ⟨16, _⟩ => ⟨S262144x32, .f32⟩
  | .hbm, ⟨17, _⟩ => ⟨S262144x32, .f32⟩
  | .hbm, ⟨18, _⟩ => ⟨S_, .f32⟩
  | .hbm, ⟨19, _⟩ => ⟨S262144x32, .f32⟩
  | .hbm, ⟨20, _⟩ => ⟨S262144x32, .f32⟩
  | .hbm, ⟨21, _⟩ => ⟨S_, .f32⟩
  | .hbm, ⟨22, _⟩ => ⟨S262144x32, .f32⟩
  | .hbm, ⟨23, _⟩ => ⟨S262144x32, .f32⟩
  | .hbm, ⟨24, _⟩ => ⟨S_, .f32⟩
  | .hbm, ⟨25, _⟩ => ⟨S262144x32, .f32⟩
  | .hbm, ⟨26, _⟩ => ⟨S262144x32, .f32⟩
  | .hbm, ⟨27, _⟩ => ⟨S262144x32, .f32⟩
  | .hbm, ⟨28, _⟩ => ⟨S262144x32, .f32⟩
  | .hbm, ⟨29, _⟩ => ⟨S262144x32, .f32⟩
  | .hbm, ⟨30, _⟩ => ⟨S262144x32, .f32⟩
  | .hbm, ⟨31, _⟩ => ⟨S_, .f32⟩
  | .hbm, ⟨32, _⟩ => ⟨S_, .f32⟩
  | .hbm, ⟨33, _⟩ => ⟨S262144x32, .f32⟩
  | .hbm, ⟨34, _⟩ => ⟨S262144x32, .f32⟩
  | .hbm, ⟨35, _⟩ => ⟨S32x262144, .f32⟩
  | .hbm, ⟨36, _⟩ => ⟨S32x15, .f32⟩
  | .hbm, ⟨37, _⟩ => ⟨S32x15, .i32⟩
  | .hbm, ⟨38, _⟩ => ⟨S_, .f32⟩
  | .hbm, ⟨39, _⟩ => ⟨S32, .f32⟩
  | .hbm, ⟨40, _⟩ => ⟨S_, .f32⟩
  | .hbm, ⟨41, _⟩ => ⟨S32, .f32⟩
  | .hbm, ⟨42, _⟩ => ⟨S32, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | _, _ => ⟨S262144x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_cst_2 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_v15 : Ref sig .tc := ⟨.hbm, 23, rfl⟩
abbrev main_cst_5 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_6 : Ref sig .tc := ⟨.hbm, 31, rfl⟩
abbrev main_call0_v0 : Ref sig .tc := ⟨.hbm, 32, rfl⟩
abbrev main_call0_v1 : Ref sig .tc := ⟨.hbm, 33, rfl⟩
abbrev main_v22 : Ref sig .tc := ⟨.hbm, 34, rfl⟩
abbrev main_v23 : Ref sig .tc := ⟨.hbm, 35, rfl⟩
abbrev main_values : Ref sig .tc := ⟨.hbm, 36, rfl⟩
abbrev main_indices : Ref sig .tc := ⟨.hbm, 37, rfl⟩
abbrev main_cst_7 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_cst_9 : Ref sig .tc := ⟨.hbm, 43, rfl⟩
abbrev main_v27 : Ref sig .tc := ⟨.hbm, 44, rfl⟩
abbrev main_cst_10 : Ref sig .tc := ⟨.hbm, 45, rfl⟩
abbrev main_v28 : Ref sig .tc := ⟨.hbm, 46, rfl⟩

abbrev nD : Nat := 1
abbrev τ : Topo := Topo.v7x

variable {F : FTy → Type} [FloatOps F]
-- ==== Proof.Counts.lean ====
module

public import Idealize.ShloMosaic.PureOps.Ideal.Laws

/-!
Counting in finite families of extended reals: how many members satisfy a condition, what an
extraction of minima keeps, and the order statistic a rank determines.
-/

@[expose] public section

noncomputable section

namespace Cert.Hardest

open Finset

variable {ι κ : Type} [Fintype ι] [Fintype κ]

open Classical in
/-- How many members of a family satisfy a condition. -/
def cnt (p : EReal → Prop) (a : ι → EReal) : ℕ := (univ.filter fun i => p (a i)).card

theorem cnt_eq_card (p : EReal → Prop) (a : ι → EReal) [DecidablePred fun i => p (a i)] :
    cnt p a = (univ.filter fun i => p (a i)).card := by
  unfold cnt; congr

theorem cnt_eq_sum (p : EReal → Prop) [DecidablePred p] (a : ι → EReal) :
    cnt p a = ∑ i, if p (a i) then 1 else 0 := by
  rw [cnt_eq_card, Finset.card_filter]

theorem cnt_le {p q : EReal → Prop} {a b : ι → EReal} (h : ∀ i, p (a i) → q (b i)) :
    cnt p a ≤ cnt q b := by
  classical
  unfold cnt
  apply Finset.card_le_card
  intro i hi
  simp only [mem_filter, mem_univ, true_and] at hi ⊢
  exact h _ hi

theorem cnt_lt {p q : EReal → Prop} {a b : ι → EReal} (h : ∀ i, p (a i) → q (b i)) (i0 : ι)
    (h0 : q (b i0)) (h1 : ¬ p (a i0)) : cnt p a < cnt q b := by
  classical
  unfold cnt
  apply Finset.card_lt_card
  rw [Finset.ssubset_iff_of_subset]
  · refine ⟨i0, ?_, ?_⟩
    · simp only [mem_filter, mem_univ, true_and]; exact h0
    · simp only [mem_filter, mem_univ, true_and]; exact h1
  · intro i hi
    simp only [mem_filter, mem_univ, true_and] at hi ⊢
    exact h _ hi

theorem cnt_pos {p : EReal → Prop} {a : ι → EReal} : 0 < cnt p a ↔ ∃ i, p (a i) := by
  classical
  unfold cnt
  rw [Finset.card_pos]
  constructor
  · rintro ⟨i, hi⟩
    simp only [mem_filter, mem_univ, true_and] at hi
    exact ⟨i, hi⟩
  · rintro ⟨i, hi⟩
    exact ⟨i, by simp only [mem_filter, mem_univ, true_and]; exact hi⟩

theorem cnt_mono {p q : EReal → Prop} (a : ι → EReal) (h : ∀ x, p x → q x) :
    cnt p a ≤ cnt q a := cnt_le fun i => h _

/-- The least member. -/
def mn (a : ι → EReal) : EReal := univ.inf a

/-- Every member equal to the least is replaced by infinity. -/
def dr (a : ι → EReal) : ι → EReal := fun i => if a i = mn a then ⊤ else a i

/-- The minima an extraction of this kind returns, in order. -/
def ex (a : ι → EReal) (k : ℕ) : EReal := mn (dr^[k] a)

theorem ex_succ (a : ι → EReal) (k : ℕ) : ex a (k + 1) = ex (dr a) k := rfl

theorem mn_le (a : ι → EReal) (i : ι) : mn a ≤ a i := Finset.inf_le (mem_univ i)

theorem mn_mem (a : ι → EReal) (h : mn a < ⊤) : ∃ i, a i = mn a := by
  have hne : (univ : Finset ι).Nonempty := by
    by_contra hc
    rw [Finset.not_nonempty_iff_eq_empty] at hc
    unfold mn at h
    rw [hc, Finset.inf_empty] at h
    exact lt_irrefl _ h
  obtain ⟨i, _, hi⟩ := Finset.exists_mem_eq_inf univ hne a
  exact ⟨i, hi.symm⟩

/-- A member with fewer than `q` smaller ones is among the first `q` minima. -/
theorem ex_mem (q : ℕ) : ∀ (a : ι → EReal) (i : ι), a i < ⊤ → cnt (· < a i) a < q →
    ∃ k, k < q ∧ ex a k = a i := by
  induction q with
  | zero => intro a i _ h; omega
  | succ q ih =>
    intro a i hi hq
    by_cases h : a i = mn a
    · exact ⟨0, Nat.succ_pos _, h.symm⟩
    · have hd : dr a i = a i := if_neg h
      have hlt : mn a < a i := lt_of_le_of_ne (mn_le a i) (Ne.symm h)
      obtain ⟨i0, h0⟩ := mn_mem a (hlt.trans hi)
      have hc : cnt (· < dr a i) (dr a) < cnt (· < a i) a := by
        rw [hd]
        refine cnt_lt (fun j hj => ?_) i0 (by rw [h0]; exact hlt) (by
          unfold dr; rw [if_pos h0]; exact not_top_lt)
        unfold dr at hj
        split at hj
        · exact absurd hj not_top_lt
        · exact hj
      obtain ⟨k, hk, he⟩ := ih (dr a) i (hd ▸ hi) (by omega)
      exact ⟨k + 1, by omega, by rw [ex_succ, he, hd]⟩

/-- An extraction returns no more values of a kind than the family holds. -/
theorem ex_count (p : EReal → Prop) [DecidablePred p] (hp : ¬ p ⊤) (q : ℕ) : ∀ a : ι → EReal,
    (∑ k ∈ range q, if p (ex a k) then 1 else 0) ≤ cnt p a := by
  induction q with
  | zero => intro a; simp
  | succ q ih =>
    intro a
    rw [Finset.sum_range_succ']
    have h1 : (∑ k ∈ range q, if p (ex a (k + 1)) then 1 else 0) ≤ cnt p (dr a) := ih (dr a)
    have hsub : ∀ j, p (dr a j) → p (a j) := by
      intro j hj
      unfold dr at hj
      split at hj
      · exact absurd hj hp
      · exact hj
    by_cases hm : p (ex a 0)
    · rw [if_pos hm]
      have hm' : p (mn a) := hm
      have hlt : mn a < ⊤ := lt_top_iff_ne_top.mpr fun h => hp (h ▸ hm')
      obtain ⟨i0, h0⟩ := mn_mem a hlt
      have : cnt p (dr a) < cnt p a :=
        cnt_lt hsub i0 (by rw [h0]; exact hm') (by unfold dr; rw [if_pos h0]; exact hp)
      omega
    · rw [if_neg hm]
      have : cnt p (dr a) ≤ cnt p a := cnt_le hsub
      omega

open Classical in
/-- Removing one occurrence of the least member takes one away from every count that holds it. -/
theorem cnt_remove (a : ι → EReal) (i0 : ι) (h0 : a i0 = mn a) (v : EReal) (hv : v < ⊤) :
    cnt (· ≤ v) a
      = cnt (· ≤ v) (fun i => if i = i0 then ⊤ else a i) + if mn a ≤ v then 1 else 0 := by
  have ht : ¬ (⊤ : EReal) ≤ v := not_le.mpr hv
  have e : ∀ i, (if a i ≤ v then 1 else 0)
      = (if (if i = i0 then (⊤ : EReal) else a i) ≤ v then 1 else 0)
        + if i = i0 then (if mn a ≤ v then 1 else 0) else 0 := by
    intro i
    by_cases h : i = i0
    · rw [if_pos h, if_pos h, if_neg ht, h, h0, Nat.zero_add]
    · rw [if_neg h, if_neg h, Nat.add_zero]
  rw [cnt_eq_sum, cnt_eq_sum, Finset.sum_congr rfl fun i _ => e i, Finset.sum_add_distrib,
    Finset.sum_ite_eq' univ i0, if_pos (mem_univ _)]

open Classical in
/-- A sequence of families, each the one before with one occurrence of its least member removed. -/
theorem removal_le_iff (Y : ℕ → ι → EReal) (i0 : ℕ → ι)
    (h0 : ∀ k, Y k (i0 k) = mn (Y k))
    (hs : ∀ k, Y (k + 1) = fun i => if i = i0 k then ⊤ else Y k i)
    (v : EReal) (hv : v < ⊤) (k : ℕ) : mn (Y k) ≤ v ↔ k < cnt (· ≤ v) (Y 0) := by
  have key : ∀ (k : ℕ) (n : ℕ), mn (Y (n + k)) ≤ v ↔ k < cnt (· ≤ v) (Y n) := by
    intro k
    induction k with
    | zero =>
      intro n
      constructor
      · intro h
        exact cnt_pos.mpr ⟨i0 n, by rw [h0]; exact h⟩
      · intro h
        obtain ⟨i, hi⟩ := cnt_pos.mp h
        exact (mn_le _ i).trans hi
    | succ k ih =>
      intro n
      have h1 := ih (n + 1)
      rw [show n + (k + 1) = n + 1 + k by omega, h1]
      have h2 := cnt_remove (Y n) (i0 n) (h0 n) v hv
      rw [← hs n] at h2
      by_cases hm : mn (Y n) ≤ v
      · rw [if_pos hm] at h2; omega
      · rw [if_neg hm] at h2
        have hz : ¬ 0 < cnt (· ≤ v) (Y n) := fun h => by
          obtain ⟨i, hi⟩ := cnt_pos.mp h
          exact hm ((mn_le _ i).trans hi)
        omega
  have := key k 0
  rwa [Nat.zero_add] at this

/-- `y` is the member of rank `k` from the top. -/
def Rank (x : ι → EReal) (k : ℕ) (y : EReal) : Prop :=
  cnt (y < ·) x ≤ k ∧ k + 1 ≤ cnt (y ≤ ·) x

theorem Rank.unique {x : ι → EReal} {k : ℕ} {y y' : EReal} (h : Rank x k y) (h' : Rank x k y') :
    y = y' := by
  rcases lt_trichotomy y y' with hl | he | hl
  · have := cnt_mono x (p := (y' ≤ ·)) (q := (y < ·)) (fun z hz => lt_of_lt_of_le hl hz)
    have h1 := h.1; have h2 := h'.2; omega
  · exact he
  · have := cnt_mono x (p := (y ≤ ·)) (q := (y' < ·)) (fun z hz => lt_of_lt_of_le hl hz)
    have h1 := h'.1; have h2 := h.2; omega

/-- A descending arrangement holds at place `k` the member of rank `k`. -/
theorem rank_of_sorted {n : ℕ} (x : Fin n → EReal) (s : Fin n → Fin n)
    (hs : Function.Bijective s) (hd : ∀ i j, i < j → x (s j) ≤ x (s i)) (k : Fin n) :
    Rank x k.val (x (s k)) := by
  constructor
  · rw [cnt_eq_card]
    have : (univ.filter fun i => x (s k) < x i) ⊆ (univ.filter fun j : Fin n => j < k).image s := by
      intro i hi
      simp only [mem_filter, mem_univ, true_and] at hi
      obtain ⟨j, rfl⟩ := hs.2 i
      rw [mem_image]
      refine ⟨j, ?_, rfl⟩
      simp only [mem_filter, mem_univ, true_and]
      by_contra hc
      rcases lt_or_eq_of_le (not_lt.mp hc) with h | h
      · exact absurd hi (not_lt.mpr (hd _ _ h))
      · rw [h] at hi; exact lt_irrefl _ hi
    refine (Finset.card_le_card this).trans (Finset.card_image_le.trans ?_)
    rw [show (univ.filter fun j : Fin n => j < k) = Finset.Iio k by ext; simp, Fin.card_Iio]
  · rw [cnt_eq_card]
    have : (univ.filter fun j : Fin n => j ≤ k).image s ⊆ univ.filter fun i => x (s k) ≤ x i := by
      intro i hi
      rw [mem_image] at hi
      obtain ⟨j, hj, rfl⟩ := hi
      simp only [mem_filter, mem_univ, true_and] at hj ⊢
      rcases lt_or_eq_of_le hj with h | h
      · exact hd _ _ h
      · rw [h]
    have h2 := Finset.card_le_card this
    rw [Finset.card_image_of_injective _ hs.1,
      show (univ.filter fun j : Fin n => j ≤ k) = Finset.Iic k by ext; simp, Fin.card_Iic] at h2
    exact h2

/-- If a family's minima by removal agree with a family `z` on the counts below infinity, each
minimum is `z`'s member of that rank from the bottom. -/
theorem rank_bottom (z : ι → EReal) (k : ℕ) (m : EReal) (hm : m < ⊤)
    (h : ∀ v, v < ⊤ → (m ≤ v ↔ k < cnt (· ≤ v) z)) :
    cnt (· < m) z ≤ k ∧ k + 1 ≤ cnt (· ≤ m) z := by
  constructor
  · by_contra hc
    have hc : k + 1 ≤ cnt (· < m) z := by omega
    have hne : (univ.filter fun i => z i < m).Nonempty := by
      obtain ⟨i, hi⟩ := cnt_pos.mp (show 0 < cnt (· < m) z by omega)
      exact ⟨i, by simp only [mem_filter, mem_univ, true_and]; exact hi⟩
    obtain ⟨i, hi, hmax⟩ := Finset.exists_max_image _ z hne
    simp only [mem_filter, mem_univ, true_and] at hi hmax
    have hle : cnt (· < m) z ≤ cnt (· ≤ z i) z := cnt_le fun j hj => hmax j hj
    have := (h (z i) (hi.trans hm)).mpr (by omega)
    exact absurd hi (not_lt.mpr this)
  · exact (h m hm).mp le_rfl

/-- An antitone reading of the members turns ranks from the bottom into ranks from the top. -/
theorem rank_antitone (z : ι → EReal) (L : EReal → EReal) (hL : ∀ x y, x ≤ y → L y ≤ L x)
    (k : ℕ) (m : EReal) (h : cnt (· < m) z ≤ k ∧ k + 1 ≤ cnt (· ≤ m) z) :
    Rank (fun i => L (z i)) k (L m) := by
  constructor
  · refine le_trans (cnt_le fun i hi => ?_) h.1
    by_contra hc
    exact absurd hi (not_lt.mpr (hL _ _ (not_lt.mp hc)))
  · exact le_trans h.2 (cnt_le fun i hi => hL _ _ hi)

/-- Two members of one family that are equal and reach the cut are excluded when neighbouring
ranks above the cut hold different values. -/
theorem distinct_of_apart (M : ι → EReal) (y : ℕ → EReal) (cut : EReal)
    (hy : ∀ k, k < 16 → Rank M k (y k)) (hcut : ∀ u, cut ≤ u → cnt (u < ·) M ≤ 14)
    (hap : ∀ k, k < 15 → y (k + 1) < y k ∨ y (k + 1) < cut)
    (i j : ι) (hij : i ≠ j) (he : M i = M j) (hc : cut ≤ M i) : False := by
  classical
  have hg := hcut _ hc
  generalize hgd : cnt (M i < ·) M = g at hg
  have hge : g + 2 ≤ cnt (M i ≤ ·) M := by
    have hsub : insert i (insert j (univ.filter fun n => M i < M n))
        ⊆ univ.filter fun n => M i ≤ M n := by
      intro n hn
      simp only [mem_insert, mem_filter, mem_univ, true_and] at hn ⊢
      rcases hn with rfl | rfl | hn
      · exact le_rfl
      · exact he.le
      · exact hn.le
    have := Finset.card_le_card hsub
    rw [Finset.card_insert_of_notMem, Finset.card_insert_of_notMem] at this
    · rw [cnt_eq_card] at hgd ⊢; omega
    · simp only [mem_filter, mem_univ, true_and]; rw [he]; exact lt_irrefl _
    · simp only [mem_insert, mem_filter, mem_univ, true_and, not_or]
      exact ⟨hij, lt_irrefl _⟩
  have e1 : y g = M i := (hy g (by omega)).unique ⟨hgd.le, by omega⟩
  have e2 : y (g + 1) = M i := (hy (g + 1) (by omega)).unique ⟨by omega, by omega⟩
  rcases hap g (by omega) with h | h
  · rw [e1, e2] at h; exact lt_irrefl _ h
  · rw [e2] at h; exact absurd hc (not_le.mpr h)

end Cert.Hardest
-- ==== Proof.Pool.lean ====
module

public import proofs.«01_k».proof.Proof.Counts

/-!
What the pool of a lane holds after any number of blocks: the eight-input network keeps every value of
a block, and the quotas keep every value that fewer than fifteen values of the lane precede.
-/

@[expose] public section

noncomputable section

namespace Cert.Hardest

open Finset

/-! ### The network -/

/-- The eight outputs of the network of pairwise minima and maxima. -/
def net {α : Type} (mi ma : α → α → α) (b : Fin 8 → α) : Fin 8 → α :=
  let p14 := mi (b 0) (b 1)
  let p15 := ma (b 0) (b 1)
  let p16 := mi (b 2) (b 3)
  let p17 := ma (b 2) (b 3)
  let p18 := mi (b 4) (b 5)
  let p19 := ma (b 4) (b 5)
  let p20 := mi (b 6) (b 7)
  let p21 := ma (b 6) (b 7)
  let p22 := mi p14 p16
  let p23 := ma p14 p16
  let p24 := mi p15 p17
  let p25 := ma p15 p17
  let p26 := mi p18 p20
  let p27 := ma p18 p20
  let p28 := mi p19 p21
  let p29 := ma p19 p21
  let p30 := mi p24 p23
  let p31 := ma p24 p23
  let p32 := mi p28 p27
  let p33 := ma p28 p27
  let p34 := mi p22 p26
  let p35 := ma p22 p26
  let p36 := mi p30 p32
  let p37 := ma p30 p32
  let p38 := mi p31 p33
  let p39 := ma p31 p33
  let p40 := mi p25 p29
  let p41 := ma p25 p29
  let p42 := mi p38 p35
  let p43 := ma p38 p35
  let p44 := mi p40 p37
  let p45 := ma p40 p37
  ![p34, mi p36 p42, ma p36 p42, mi p44 p43, ma p44 p43, mi p45 p39, ma p45 p39, p41]

/-- The network on truth values, by its eight inputs. -/
def netB (b0 b1 b2 b3 b4 b5 b6 b7 : Bool) : Fin 8 → Bool :=
  net (· || ·) (· && ·) ![b0, b1, b2, b3, b4, b5, b6, b7]

theorem netB_sorted : ∀ b0 b1 b2 b3 b4 b5 b6 b7 : Bool, ∀ j : Fin 7,
    netB b0 b1 b2 b3 b4 b5 b6 b7 j.succ = true → netB b0 b1 b2 b3 b4 b5 b6 b7 j.castSucc = true := by
  decide +kernel

theorem netB_count : ∀ b0 b1 b2 b3 b4 b5 b6 b7 : Bool,
    (∑ j : Fin 8, (netB b0 b1 b2 b3 b4 b5 b6 b7 j).toNat)
      = b0.toNat + b1.toNat + b2.toNat + b3.toNat + b4.toNat + b5.toNat + b6.toNat + b7.toNat := by
  decide +kernel

theorem net_hom {α β : Type} (f : α → β) (mi ma : α → α → α) (mi' ma' : β → β → β)
    (h1 : ∀ x y, f (mi x y) = mi' (f x) (f y)) (h2 : ∀ x y, f (ma x y) = ma' (f x) (f y))
    (b : Fin 8 → α) (j : Fin 8) : f (net mi ma b j) = net mi' ma' (fun k => f (b k)) j := by
  fin_cases j <;> simp [net, h1, h2]

/-- A condition met by everything below a value that meets it. -/
def Down (p : EReal → Prop) : Prop := ∀ x y, x ≤ y → p y → p x

theorem down_le (v : EReal) : Down (· ≤ v) := fun _ _ h h' => le_trans h h'
theorem down_lt (v : EReal) : Down (· < v) := fun _ _ h h' => lt_of_le_of_lt h h'

theorem down_min {p : EReal → Prop} (h : Down p) [DecidablePred p] (x y : EReal) :
    decide (p (min x y)) = (decide (p x) || decide (p y)) := by
  rcases le_total x y with hl | hl
  · rw [min_eq_left hl]
    by_cases hx : p x
    · simp [hx]
    · have hy : ¬ p y := fun hy => hx (h _ _ hl hy)
      simp [hx, hy]
  · rw [min_eq_right hl]
    by_cases hy : p y
    · simp [hy]
    · have hx : ¬ p x := fun hx => hy (h _ _ hl hx)
      simp [hx, hy]

theorem down_max {p : EReal → Prop} (h : Down p) [DecidablePred p] (x y : EReal) :
    decide (p (max x y)) = (decide (p x) && decide (p y)) := by
  rcases le_total x y with hl | hl
  · rw [max_eq_right hl]
    by_cases hy : p y
    · simp [hy, h _ _ hl hy]
    · simp [hy]
  · rw [max_eq_left hl]
    by_cases hx : p x
    · simp [hx, h _ _ hl hx]
    · simp [hx]

theorem net_decide {p : EReal → Prop} (h : Down p) [DecidablePred p] (b : Fin 8 → EReal) (j : Fin 8) :
    decide (p (net min max b j)) = netB (decide (p (b 0))) (decide (p (b 1))) (decide (p (b 2)))
      (decide (p (b 3))) (decide (p (b 4))) (decide (p (b 5))) (decide (p (b 6))) (decide (p (b 7))) j := by
  rw [net_hom (fun x => decide (p x)) min max (· || ·) (· && ·) (down_min h) (down_max h)]
  unfold netB
  congr 1
  funext k
  fin_cases k <;> rfl

theorem net_succ_le (b : Fin 8 → EReal) (j : Fin 7) :
    net min max b j.castSucc ≤ net min max b j.succ := by
  have h := net_decide (down_le (net min max b j.succ)) b
  have h1 := h j.succ
  have h2 := h j.castSucc
  have := netB_sorted _ _ _ _ _ _ _ _ j (h1.symm.trans (decide_eq_true le_rfl))
  rw [← h2] at this
  exact of_decide_eq_true this

theorem net_mono (b : Fin 8 → EReal) : Monotone (net min max b) :=
  Fin.monotone_iff_le_succ.mpr (net_succ_le b)

theorem net_count {p : EReal → Prop} (h : Down p) [DecidablePred p] (b : Fin 8 → EReal) :
    (∑ j, if p (net min max b j) then 1 else 0) = ∑ j, if p (b j) then 1 else 0 := by
  have e : ∀ x : EReal, (if p x then 1 else 0) = (decide (p x)).toNat := by
    intro x; by_cases hx : p x <;> simp [hx]
  simp only [e, net_decide h]
  rw [netB_count]
  simp only [Fin.sum_univ_eight]

/-! ### One block -/

/-- The pool after a block: minima of the first output of the network with the old pool, then of the
other outputs, then infinity. -/
def poolAt (A : Fin 304 → EReal) (G : Fin 8 → Fin 256 → EReal) (n : ℕ) : EReal :=
  if n < 16 then ex A n else
  if n < 24 then ex (G 1) (n - 16) else
  if n < 29 then ex (G 2) (n - 24) else
  if n < 33 then ex (G 3) (n - 29) else
  if n < 36 then ex (G 4) (n - 33) else
  if n < 38 then ex (G 5) (n - 36) else
  if n < 40 then ex (G 6) (n - 38) else
  if n < 42 then ex (G 7) (n - 40) else ⊤

/-- How many minima are kept of each output of the network. -/
def quota : Fin 8 → ℕ := ![16, 8, 5, 4, 3, 2, 2, 2]

/-- The outputs of the network on the eight slabs of a block. -/
def slabs (x : Fin 2048 → EReal) : Fin 8 → Fin 256 → EReal := fun j r =>
  net min max (fun k : Fin 8 => x ⟨256 * k.val + r.val, by omega⟩) j

/-- The first output of the network followed by the old pool. -/
def withOld (g : Fin 256 → EReal) (o : Fin 48 → EReal) : Fin 304 → EReal := fun i =>
  if h : i.val < 256 then g ⟨i.val, h⟩ else o ⟨i.val - 256, by omega⟩

theorem cnt_withOld (p : EReal → Prop) (g : Fin 256 → EReal) (o : Fin 48 → EReal) :
    cnt p (withOld g o) = cnt p g + cnt p o := by
  classical
  rw [cnt_eq_sum, cnt_eq_sum, cnt_eq_sum]
  refine (Fin.sum_univ_add (a := 256) (b := 48)
    (f := fun i : Fin (256 + 48) => if p (withOld g o i) then 1 else 0)).trans ?_
  refine congrArg₂ (· + ·) ?_ ?_
  · refine Finset.sum_congr rfl fun i _ => ?_
    have : withOld g o (Fin.castAdd 48 i) = g i := by
      unfold withOld; rw [dif_pos (by simp)]; rfl
    rw [this]
  · refine Finset.sum_congr rfl fun i _ => ?_
    have : withOld g o (Fin.natAdd 256 i) = o i := by
      unfold withOld; rw [dif_neg (by simp)]; congr 1; ext; simp
    rw [this]

theorem cnt_slabs {p : EReal → Prop} (h : Down p) (x : Fin 2048 → EReal) :
    ∑ j, cnt p (slabs x j) = cnt p x := by
  classical
  have e : ∑ j, cnt p (slabs x j) = ∑ r : Fin 256, ∑ k : Fin 8,
      if p (x ⟨256 * k.val + r.val, by omega⟩) then 1 else 0 := by
    simp only [cnt_eq_sum]
    rw [Finset.sum_comm]
    refine Finset.sum_congr rfl fun r _ => ?_
    exact net_count h _
  rw [e, cnt_eq_sum, Finset.sum_comm, ← Fintype.sum_prod_type']
  refine Eq.trans ?_ ((finProdFinEquiv (m := 8) (n := 256)).sum_comp
    (fun i : Fin (8 * 256) => if p (x i) then 1 else 0))
  refine Finset.sum_congr rfl fun kr _ => ?_
  have : (⟨256 * kr.1.val + kr.2.val, by omega⟩ : Fin 2048) = finProdFinEquiv kr := by
    ext; simp [finProdFinEquiv]; omega
  rw [this]

/-- The pool after a block. -/
def step (o : Fin 48 → EReal) (x : Fin 2048 → EReal) : Fin 48 → EReal := fun i =>
  poolAt (withOld (slabs x 0) o) (slabs x) i.val

theorem cnt_step_le {p : EReal → Prop} (h : Down p) (ht : ¬ p ⊤) (o : Fin 48 → EReal)
    (x : Fin 2048 → EReal) : cnt p (step o x) ≤ cnt p o + cnt p x := by
  classical
  have e : cnt p (step o x)
      = (∑ k ∈ range 16, if p (ex (withOld (slabs x 0) o) k) then 1 else 0)
      + (∑ k ∈ range 8, if p (ex (slabs x 1) k) then 1 else 0)
      + (∑ k ∈ range 5, if p (ex (slabs x 2) k) then 1 else 0)
      + (∑ k ∈ range 4, if p (ex (slabs x 3) k) then 1 else 0)
      + (∑ k ∈ range 3, if p (ex (slabs x 4) k) then 1 else 0)
      + (∑ k ∈ range 2, if p (ex (slabs x 5) k) then 1 else 0)
      + (∑ k ∈ range 2, if p (ex (slabs x 6) k) then 1 else 0)
      + (∑ k ∈ range 2, if p (ex (slabs x 7) k) then 1 else 0) := by
    rw [cnt_eq_sum]
    unfold step
    rw [← Finset.sum_range (fun n => if p (poolAt (withOld (slabs x 0) o) (slabs x) n) then 1 else 0)]
    simp only [Finset.sum_range_succ, Finset.sum_range_zero, poolAt]
    simp [ht]
    ring
  have h0 := ex_count p ht 16 (withOld (slabs x 0) o)
  have h1 := ex_count p ht 8 (slabs x 1)
  have h2 := ex_count p ht 5 (slabs x 2)
  have h3 := ex_count p ht 4 (slabs x 3)
  have h4 := ex_count p ht 3 (slabs x 4)
  have h5 := ex_count p ht 2 (slabs x 5)
  have h6 := ex_count p ht 2 (slabs x 6)
  have h7 := ex_count p ht 2 (slabs x 7)
  rw [cnt_withOld] at h0
  have hs := cnt_slabs h x
  rw [Fin.sum_univ_eight] at hs
  omega

/-- A value of a block is at some row of some output of the network. -/
theorem mem_slabs (x : Fin 2048 → EReal) (i : Fin 2048) : ∃ j r, slabs x j r = x i := by
  by_contra hc
  push Not at hc
  have h1 := cnt_slabs (down_le (x i)) x
  have h2 := cnt_slabs (down_lt (x i)) x
  have h3 : ∀ j, cnt (· ≤ x i) (slabs x j) ≤ cnt (· < x i) (slabs x j) := fun j =>
    cnt_le fun r hr => lt_of_le_of_ne hr (hc j r)
  have h4 : cnt (· < x i) x < cnt (· ≤ x i) x := cnt_lt (fun _ h => h.le) i le_rfl (lt_irrefl _)
  have h5 := Finset.sum_le_sum fun j (_ : j ∈ univ) => h3 j
  omega

/-- An output that holds a value no earlier output holds in its row has fewer values below it than
every earlier output. -/
theorem slabs_lt (x : Fin 2048 → EReal) (a : EReal) (j : Fin 8) (r : Fin 256)
    (h : slabs x j r = a) (hj : ∀ i, i < j → slabs x i r ≠ a) (i : Fin 8) (hi : i < j) :
    cnt (· < a) (slabs x j) < cnt (· < a) (slabs x i) := by
  refine cnt_lt (fun r' hr' => lt_of_le_of_lt (net_mono _ hi.le) hr') r ?_ (by rw [h]; exact lt_irrefl _)
  exact lt_of_le_of_ne (h ▸ net_mono _ hi.le) (hj i hi)

theorem poolAt_lt (A : Fin 304 → EReal) (G : Fin 8 → Fin 256 → EReal) (j : Fin 8) (hj : j ≠ 0)
    (k : ℕ) (hk : k < quota j) : ∃ i : Fin 48, poolAt A G i.val = ex (G j) k := by
  fin_cases j
  · exact absurd rfl hj
  · simp [quota] at hk
    refine ⟨⟨16 + k, by omega⟩, ?_⟩
    simp only [poolAt]
    rw [if_neg (by omega), if_pos (by omega)]; congr 1; omega
  · simp [quota] at hk
    refine ⟨⟨24 + k, by omega⟩, ?_⟩
    simp only [poolAt]
    rw [if_neg (by omega), if_neg (by omega), if_pos (by omega)]; congr 1; omega
  · simp [quota] at hk
    refine ⟨⟨29 + k, by omega⟩, ?_⟩
    simp only [poolAt]
    rw [if_neg (by omega), if_neg (by omega), if_neg (by omega), if_pos (by omega)]; congr 1; omega
  · simp [quota] at hk
    refine ⟨⟨33 + k, by omega⟩, ?_⟩
    simp only [poolAt]
    rw [if_neg (by omega), if_neg (by omega), if_neg (by omega), if_neg (by omega), if_pos (by omega)]
    congr 1; omega
  · simp [quota] at hk
    refine ⟨⟨36 + k, by omega⟩, ?_⟩
    simp only [poolAt]
    rw [if_neg (by omega), if_neg (by omega), if_neg (by omega), if_neg (by omega), if_neg (by omega),
      if_pos (by omega)]
    congr 1; omega
  · simp [quota] at hk
    refine ⟨⟨38 + k, by omega⟩, ?_⟩
    simp only [poolAt]
    rw [if_neg (by omega), if_neg (by omega), if_neg (by omega), if_neg (by omega), if_neg (by omega),
      if_neg (by omega), if_pos (by omega)]
    congr 1; omega
  · simp [quota] at hk
    refine ⟨⟨40 + k, by omega⟩, ?_⟩
    simp only [poolAt]
    rw [if_neg (by omega), if_neg (by omega), if_neg (by omega), if_neg (by omega), if_neg (by omega),
      if_neg (by omega), if_neg (by omega), if_pos (by omega)]
    congr 1; omega

/-- A value of the extended first output with fewer than sixteen smaller ones is kept. -/
theorem step_mem_first (o : Fin 48 → EReal) (x : Fin 2048 → EReal) (i : Fin 304)
    (h : withOld (slabs x 0) o i < ⊤)
    (hc : cnt (· < withOld (slabs x 0) o i) (withOld (slabs x 0) o) < 16) :
    ∃ p, step o x p = withOld (slabs x 0) o i := by
  obtain ⟨k, hk, he⟩ := ex_mem 16 _ i h hc
  refine ⟨⟨k, by omega⟩, ?_⟩
  unfold step poolAt
  rw [if_pos hk, he]

theorem step_mem_old (o : Fin 48 → EReal) (x : Fin 2048 → EReal) (i : Fin 48) (h : o i < ⊤)
    (hc : cnt (· < o i) o + cnt (· < o i) x ≤ 14) : ∃ p, step o x p = o i := by
  have e : withOld (slabs x 0) o (Fin.cast rfl (Fin.natAdd 256 i)) = o i := by
    unfold withOld; rw [dif_neg (by simp)]; congr 1; ext; simp
  have h0 := cnt_slabs (down_lt (o i)) x
  rw [Fin.sum_univ_eight] at h0
  rw [← e]
  refine step_mem_first o x _ (e ▸ h) ?_
  rw [e, cnt_withOld]
  omega

theorem step_mem_new (o : Fin 48 → EReal) (x : Fin 2048 → EReal) (i : Fin 2048) (h : x i < ⊤)
    (hc : cnt (· < x i) o + cnt (· < x i) x ≤ 14) : ∃ p, step o x p = x i := by
  obtain ⟨j, r, hjr⟩ := mem_slabs x i
  obtain ⟨j, hj, hmin⟩ : ∃ j : Fin 8, slabs x j r = x i ∧ ∀ i', i' < j → slabs x i' r ≠ x i := by
    classical
    let S := univ.filter fun j : Fin 8 => slabs x j r = x i
    have hS : S.Nonempty := ⟨j, by simp only [S, mem_filter, mem_univ, true_and]; exact hjr⟩
    refine ⟨S.min' hS, ?_, fun i' hi' he => ?_⟩
    · have := S.min'_mem hS
      simpa only [S, mem_filter, mem_univ, true_and] using this
    · exact absurd hi' (not_lt.mpr (S.min'_le i' (by simp only [S, mem_filter, mem_univ, true_and]; exact he)))
  have hlt := slabs_lt x (x i) j r hj hmin
  have h0 := cnt_slabs (down_lt (x i)) x
  rw [Fin.sum_univ_eight] at h0
  by_cases hz : j = 0
  · have e : withOld (slabs x 0) o (Fin.cast rfl (Fin.castAdd 48 r)) = x i := by
      unfold withOld; rw [dif_pos (by simp), ← hj, hz]; rfl
    rw [← e]
    refine step_mem_first o x _ (e ▸ h) ?_
    rw [e, cnt_withOld]
    omega
  · have hq : cnt (· < slabs x j r) (slabs x j) < quota j := by
      rw [hj]
      fin_cases j
      · exact absurd rfl hz
      · have a0 := hlt 0 (by decide)
        simp [quota] at a0 ⊢; omega
      · have a0 := hlt 0 (by decide)
        have a1 := hlt 1 (by decide)
        simp [quota] at a0 a1 ⊢; omega
      · have a0 := hlt 0 (by decide)
        have a1 := hlt 1 (by decide)
        have a2 := hlt 2 (by decide)
        simp [quota] at a0 a1 a2 ⊢; omega
      · have a0 := hlt 0 (by decide)
        have a1 := hlt 1 (by decide)
        have a2 := hlt 2 (by decide)
        have a3 := hlt 3 (by decide)
        simp [quota] at a0 a1 a2 a3 ⊢; omega
      · have a0 := hlt 0 (by decide)
        have a1 := hlt 1 (by decide)
        have a2 := hlt 2 (by decide)
        have a3 := hlt 3 (by decide)
        have a4 := hlt 4 (by decide)
        simp [quota] at a0 a1 a2 a3 a4 ⊢; omega
      · have a0 := hlt 0 (by decide)
        have a1 := hlt 1 (by decide)
        have a2 := hlt 2 (by decide)
        have a3 := hlt 3 (by decide)
        have a4 := hlt 4 (by decide)
        have a5 := hlt 5 (by decide)
        simp [quota] at a0 a1 a2 a3 a4 a5 ⊢; omega
      · have a0 := hlt 0 (by decide)
        have a1 := hlt 1 (by decide)
        have a2 := hlt 2 (by decide)
        have a3 := hlt 3 (by decide)
        have a4 := hlt 4 (by decide)
        have a5 := hlt 5 (by decide)
        have a6 := hlt 6 (by decide)
        simp [quota] at a0 a1 a2 a3 a4 a5 a6 ⊢; omega
    obtain ⟨k, hk, he⟩ := ex_mem (quota j) (slabs x j) r (hj ▸ h) hq
    obtain ⟨p, hp⟩ := poolAt_lt (withOld (slabs x 0) o) (slabs x) j hz k hk
    exact ⟨p, hp.trans (he.trans hj)⟩

/-! ### Any number of blocks -/

/-- The pool of a lane after its first `n` blocks. -/
def poolSeq (x : ℕ → Fin 2048 → EReal) : ℕ → Fin 48 → EReal
  | 0 => fun _ => ⊤
  | n + 1 => step (poolSeq x n) (x n)

/-- How many values of the first `n` blocks satisfy a condition. -/
def cntTo (p : EReal → Prop) (x : ℕ → Fin 2048 → EReal) (n : ℕ) : ℕ := ∑ s ∈ range n, cnt p (x s)

theorem pool_up {p : EReal → Prop} (h : Down p) (ht : ¬ p ⊤) (x : ℕ → Fin 2048 → EReal) (n : ℕ) :
    cnt p (poolSeq x n) ≤ cntTo p x n := by
  induction n with
  | zero =>
    have : ¬ 0 < cnt p (poolSeq x 0) := fun h => by
      obtain ⟨i, hi⟩ := cnt_pos.mp h
      exact ht hi
    omega
  | succ n ih =>
    have := cnt_step_le h ht (poolSeq x n) (x n)
    unfold cntTo at ih ⊢
    rw [Finset.sum_range_succ]
    show cnt p (step (poolSeq x n) (x n)) ≤ _
    omega

theorem pool_mem (x : ℕ → Fin 2048 → EReal) (n : ℕ) : ∀ (a : EReal), a < ⊤ →
    (∃ s, s < n ∧ ∃ r, x s r = a) → cntTo (· < a) x n ≤ 14 → ∃ p, poolSeq x n p = a := by
  induction n with
  | zero => rintro a _ ⟨s, hs, _⟩; omega
  | succ n ih =>
    rintro a ha ⟨s, hs, r, hr⟩ hc
    have hup := pool_up (down_lt a) (not_top_lt) x n
    unfold cntTo at ih hc hup
    rw [Finset.sum_range_succ] at hc
    rcases Nat.lt_succ_iff_lt_or_eq.mp hs with h | h
    · obtain ⟨p, hp⟩ := ih a ha ⟨s, h, r, hr⟩ (by omega)
      rw [← hp]
      refine step_mem_old (poolSeq x n) (x n) p (hp ▸ ha) ?_
      rw [hp]; omega
    · subst h
      rw [← hr]
      refine step_mem_new (poolSeq x s) (x s) r (hr ▸ ha) ?_
      rw [hr]; omega

end Cert.Hardest
-- ==== Proof.SelectSteps.lean ====
module

public import proofs.«01_k».proof.Proof.Gen.KernelIdeal.Skeleton
public import proofs.«01_k».proof.Proof.Gen.KernelIdeal.Launch
public import proofs.«01_k».proof.Proof.Pool
public import Idealize.ShloMosaic.Lib.Pointwise.Tactic
public import Idealize.ShloMosaic.Lib.Pipeline.Value

/-!
What the selection kernel stores after a block, read lane by lane: the pool `Cert.Hardest.step` gives from
the pool before and the block's margins.
-/

set_option maxRecDepth 65536

@[expose] public section

noncomputable section

namespace Cert.KernelIdeal.Gen

open Idealize.ShloMosaic Idealize.SL.Sem
open Cert.Hardest

theorem ofBits_top : (FloatOps.ofBits (F := Ideal) .f32 0x7F800000#32 : EReal) = ⊤ := by
  show Ideal.ofBits .f32 0x7F800000#32 = ⊤
  simp [Ideal.ofBits, Ideal.ieee]

/-- A minimum over one axis as the fold of `min` over that axis. -/
theorem minimum_single {s t : Shape} {a : Fin s.rank} (src : FVec Ideal s .f32) (acc : BitVec (FTy.bits .f32))
    (h : s.Reduces [a] t) (hφ : FKind.Formats .f32) (hacc : acc = FKind.minimumf.neutral .f32 hφ) (j : t.Idx) :
    multiReduction .minimumf [a] t src acc h hφ hacc j
      = (Finset.univ : Finset (Fin (s.size a))).fold min (Ideal.ofBits .f32 acc) (src ∘ h.lift j) := by
  rw [multiReduction_minimumf_eq_fold]; exact h.fold_filter_drop_single _ _ src j

/-- The least entry of each lane of 304 rows. -/
def mn304 (a : FVec Ideal S304x128 .f32) : FVec Ideal S1x128 .f32 :=
  shapeCast S1x128 (multiReduction .minimumf [0] S128 a 0x7F800000#32 reduces_S304x128_S128 (.inl rfl) rfl)
    shapeCasts_S128_S1x128

/-- The entries equal to their lane's least replaced by infinity, on 304 rows. -/
def dr304 (a : FVec Ideal S304x128 .f32) : FVec Ideal S304x128 .f32 :=
  select (cmpf .oeq a (broadcastTo S304x128 (mn304 a) broadcasts_S1x128_S304x128))
    (broadcast S304x128 (Scalar.ofBits .f32 0x7F800000#32)) a

/-- The least entry of each lane of 256 rows. -/
def mn256 (a : FVec Ideal S256x128 .f32) : FVec Ideal S1x128 .f32 :=
  shapeCast S1x128 (multiReduction .minimumf [0] S128 a 0x7F800000#32 reduces_S256x128_S128 (.inl rfl) rfl)
    shapeCasts_S128_S1x128

/-- The entries equal to their lane's least replaced by infinity, on 256 rows. -/
def dr256 (a : FVec Ideal S256x128 .f32) : FVec Ideal S256x128 .f32 :=
  select (cmpf .oeq a (broadcastTo S256x128 (mn256 a) broadcasts_S1x128_S256x128))
    (broadcast S256x128 (Scalar.ofBits .f32 0x7F800000#32)) a

/-- Where an entry equals its lane's least, on 304 rows. -/
def mask304 (a : FVec Ideal S304x128 .f32) : IVec S304x128 1 :=
  cmpf .oeq a (broadcastTo S304x128 (mn304 a) broadcasts_S1x128_S304x128)

/-- Infinity on 304 rows. -/
def inf304 : FVec Ideal S304x128 .f32 := broadcast S304x128 (Scalar.ofBits .f32 0x7F800000#32)

/-- The least of each lane, on each of its 256 rows. -/
def bc256 (a : FVec Ideal S256x128 .f32) : FVec Ideal S256x128 .f32 :=
  broadcastTo S256x128 (mn256 a) broadcasts_S1x128_S256x128

/-- The least of each lane of 256 rows, without the row axis. -/
def red256 (a : FVec Ideal S256x128 .f32) : FVec Ideal S128 .f32 :=
  multiReduction .minimumf [0] S128 a 0x7F800000#32 reduces_S256x128_S128 (.inl rfl) rfl

/-- A lane of a vector of rows. -/
def col {n : ℕ} (a : (⟨2, ![n, 128]⟩ : Shape).Idx → EReal) (l : Fin 128) : Fin n → EReal := fun i => a (ix2 i l)

theorem mn304_apply (a : FVec Ideal S304x128 .f32) (l : Fin 128) : mn304 a (ix2 0 l) = mn (col a l) := by
  unfold mn304
  rw [shapeCast_apply _ _ (ix2 0 l) (ix1 l) (by rw [Shape.rowMajor_val_one, Shape.rowMajor_val_two]; simp)]
  refine (minimum_single a _ reduces_S304x128_S128 _ _ (ix1 l)).trans ?_
  rw [show Ideal.ofBits .f32 0x7F800000#32 = ⊤ from ofBits_top]
  unfold mn Finset.inf col
  refine congrArg (Finset.fold min ⊤ · Finset.univ) ?_
  funext i
  refine congrArg a ?_
  funext b; fin_cases b <;> rfl

theorem mn256_apply (a : FVec Ideal S256x128 .f32) (l : Fin 128) : mn256 a (ix2 0 l) = mn (col a l) := by
  unfold mn256
  rw [shapeCast_apply _ _ (ix2 0 l) (ix1 l) (by rw [Shape.rowMajor_val_one, Shape.rowMajor_val_two]; simp)]
  refine (minimum_single a _ reduces_S256x128_S128 _ _ (ix1 l)).trans ?_
  rw [show Ideal.ofBits .f32 0x7F800000#32 = ⊤ from ofBits_top]
  unfold mn Finset.inf col
  refine congrArg (Finset.fold min ⊤ · Finset.univ) ?_
  funext i
  refine congrArg a ?_
  funext b; fin_cases b <;> rfl

theorem col_dr304 (a : FVec Ideal S304x128 .f32) (l : Fin 128) : col (dr304 a) l = dr (col a l) := by
  funext i
  show Scalar.select (Ideal.cmp .oeq (a (ix2 i l)) (broadcastTo S304x128 (mn304 a) broadcasts_S1x128_S304x128 (ix2 i l)))
    (FloatOps.ofBits (F := Ideal) .f32 0x7F800000#32) (a (ix2 i l)) = _
  rw [broadcastTo_apply _ _ (ix2 i l) (ix2 0 l) (fun b => by fin_cases b <;> rfl), mn304_apply, ofBits_top]
  unfold dr
  show _ = if a (ix2 i l) = mn (col a l) then ⊤ else a (ix2 i l)
  by_cases h : a (ix2 i l) = mn (col a l)
  · rw [if_pos h]; simp [Scalar.select, Ideal.cmp, h]
  · rw [if_neg h]; simp [Scalar.select, Ideal.cmp, h]

theorem col_dr256 (a : FVec Ideal S256x128 .f32) (l : Fin 128) : col (dr256 a) l = dr (col a l) := by
  funext i
  show Scalar.select (Ideal.cmp .oeq (a (ix2 i l)) (broadcastTo S256x128 (mn256 a) broadcasts_S1x128_S256x128 (ix2 i l)))
    (FloatOps.ofBits (F := Ideal) .f32 0x7F800000#32) (a (ix2 i l)) = _
  rw [broadcastTo_apply _ _ (ix2 i l) (ix2 0 l) (fun b => by fin_cases b <;> rfl), mn256_apply, ofBits_top]
  unfold dr
  show _ = if a (ix2 i l) = mn (col a l) then ⊤ else a (ix2 i l)
  by_cases h : a (ix2 i l) = mn (col a l)
  · rw [if_pos h]; simp [Scalar.select, Ideal.cmp, h]
  · rw [if_neg h]; simp [Scalar.select, Ideal.cmp, h]

/-! ### The extraction's steps, one by one -/

theorem p53 (v40 : Vec Ideal S256x128 .f32) (v58 : Vec Ideal S48x128 .f32) : k0_pay53 v40 v58 = mn304 (k0_pay52 v40 v58) := rfl
theorem p54 (v40 : Vec Ideal S256x128 .f32) (v58 : Vec Ideal S48x128 .f32) : k0_pay54 v40 v58 = dr304 (k0_pay52 v40 v58) := rfl
theorem p55 (v40 : Vec Ideal S256x128 .f32) (v58 : Vec Ideal S48x128 .f32) : k0_pay55 v40 v58 = mn304 (k0_pay54 v40 v58) := rfl
theorem p56 (v40 : Vec Ideal S256x128 .f32) (v58 : Vec Ideal S48x128 .f32) : k0_pay56 v40 v58 = dr304 (k0_pay54 v40 v58) := rfl
theorem p57 (v40 : Vec Ideal S256x128 .f32) (v58 : Vec Ideal S48x128 .f32) : k0_pay57 v40 v58 = mn304 (k0_pay56 v40 v58) := rfl
theorem p58 (v40 : Vec Ideal S256x128 .f32) (v58 : Vec Ideal S48x128 .f32) : k0_pay58 v40 v58 = dr304 (k0_pay56 v40 v58) := rfl
theorem p59 (v40 : Vec Ideal S256x128 .f32) (v58 : Vec Ideal S48x128 .f32) : k0_pay59 v40 v58 = mn304 (k0_pay58 v40 v58) := rfl
theorem p60 (v40 : Vec Ideal S256x128 .f32) (v58 : Vec Ideal S48x128 .f32) : k0_pay60 v40 v58 = dr304 (k0_pay58 v40 v58) := rfl
theorem p61 (v40 : Vec Ideal S256x128 .f32) (v58 : Vec Ideal S48x128 .f32) : k0_pay61 v40 v58 = mn304 (k0_pay60 v40 v58) := rfl
theorem p62 (v40 : Vec Ideal S256x128 .f32) (v58 : Vec Ideal S48x128 .f32) : k0_pay62 v40 v58 = dr304 (k0_pay60 v40 v58) := rfl
theorem p63 (v40 : Vec Ideal S256x128 .f32) (v58 : Vec Ideal S48x128 .f32) : k0_pay63 v40 v58 = mn304 (k0_pay62 v40 v58) := rfl
theorem p64 (a : Vec Ideal S256x128 .f32) (b : Vec Ideal S48x128 .f32) : k0_pay64 a b = mask304 (k0_pay62 a b) := rfl
theorem p65 : k0_pay65 (F := Ideal) = inf304 := rfl
theorem p66 (a : Vec Ideal S304x128 .f32) : k0_pay66 a (mask304 a) inf304 = dr304 a := rfl
theorem p67 (v90 : FVec Ideal S304x128 .f32) (v94 : IVec S304x128 1) (v95 : FVec Ideal S304x128 .f32) : k0_pay67 v90 v94 v95 = mn304 (k0_pay66 v90 v94 v95) := rfl
theorem p68 (v90 : FVec Ideal S304x128 .f32) (v94 : IVec S304x128 1) (v95 : FVec Ideal S304x128 .f32) : k0_pay68 v90 v94 v95 = dr304 (k0_pay66 v90 v94 v95) := rfl
theorem p69 (v90 : FVec Ideal S304x128 .f32) (v94 : IVec S304x128 1) (v95 : FVec Ideal S304x128 .f32) : k0_pay69 v90 v94 v95 = mn304 (k0_pay68 v90 v94 v95) := rfl
theorem p70 (v90 : FVec Ideal S304x128 .f32) (v94 : IVec S304x128 1) (v95 : FVec Ideal S304x128 .f32) : k0_pay70 v90 v94 v95 = dr304 (k0_pay68 v90 v94 v95) := rfl
theorem p71 (v90 : FVec Ideal S304x128 .f32) (v94 : IVec S304x128 1) (v95 : FVec Ideal S304x128 .f32) : k0_pay71 v90 v94 v95 = mn304 (k0_pay70 v90 v94 v95) := rfl
theorem p72 (v90 : FVec Ideal S304x128 .f32) (v94 : IVec S304x128 1) (v95 : FVec Ideal S304x128 .f32) : k0_pay72 v90 v94 v95 = dr304 (k0_pay70 v90 v94 v95) := rfl
theorem p73 (v90 : FVec Ideal S304x128 .f32) (v94 : IVec S304x128 1) (v95 : FVec Ideal S304x128 .f32) : k0_pay73 v90 v94 v95 = mn304 (k0_pay72 v90 v94 v95) := rfl
theorem p74 (v90 : FVec Ideal S304x128 .f32) (v94 : IVec S304x128 1) (v95 : FVec Ideal S304x128 .f32) : k0_pay74 v90 v94 v95 = dr304 (k0_pay72 v90 v94 v95) := rfl
theorem p75 (v90 : FVec Ideal S304x128 .f32) (v94 : IVec S304x128 1) (v95 : FVec Ideal S304x128 .f32) : k0_pay75 v90 v94 v95 = mn304 (k0_pay74 v90 v94 v95) := rfl
theorem p76 (v90 : FVec Ideal S304x128 .f32) (v94 : IVec S304x128 1) (v95 : FVec Ideal S304x128 .f32) : k0_pay76 v90 v94 v95 = dr304 (k0_pay74 v90 v94 v95) := rfl
theorem p77 (v90 : FVec Ideal S304x128 .f32) (v94 : IVec S304x128 1) (v95 : FVec Ideal S304x128 .f32) : k0_pay77 v90 v94 v95 = mn304 (k0_pay76 v90 v94 v95) := rfl
theorem p78 (v90 : FVec Ideal S304x128 .f32) (v94 : IVec S304x128 1) (v95 : FVec Ideal S304x128 .f32) : k0_pay78 v90 v94 v95 = dr304 (k0_pay76 v90 v94 v95) := rfl
theorem p79 (v90 : FVec Ideal S304x128 .f32) (v94 : IVec S304x128 1) (v95 : FVec Ideal S304x128 .f32) : k0_pay79 v90 v94 v95 = mn304 (k0_pay78 v90 v94 v95) := rfl
theorem p80 (v90 : FVec Ideal S304x128 .f32) (v94 : IVec S304x128 1) (v95 : FVec Ideal S304x128 .f32) : k0_pay80 v90 v94 v95 = dr304 (k0_pay78 v90 v94 v95) := rfl
theorem p81 (v90 : FVec Ideal S304x128 .f32) (v94 : IVec S304x128 1) (v95 : FVec Ideal S304x128 .f32) : k0_pay81 v90 v94 v95 = mn304 (k0_pay80 v90 v94 v95) := rfl
theorem p82 (a : Vec Ideal S304x128 .f32) : k0_pay82 a (mn304 a) = dr304 a := rfl
theorem p83 (a : Vec Ideal S304x128 .f32) : k0_pay83 a (mn304 a) = mn304 (dr304 a) := rfl
theorem p84 (a : Vec Ideal S304x128 .f32) : k0_pay84 a (mn304 a) = mn304 (dr304 (dr304 a)) := rfl
theorem p85 (v52 : Vec Ideal S256x128 .f32) : k0_pay85 v52 = mn256 v52 := rfl
theorem p86 (v52 : Vec Ideal S256x128 .f32) : k0_pay86 v52 = dr256 v52 := rfl
theorem p87 (v52 : Vec Ideal S256x128 .f32) : k0_pay87 v52 = mn256 (k0_pay86 v52) := rfl
theorem p88 (v52 : Vec Ideal S256x128 .f32) : k0_pay88 v52 = dr256 (k0_pay86 v52) := rfl
theorem p89 (v52 : Vec Ideal S256x128 .f32) : k0_pay89 v52 = mn256 (k0_pay88 v52) := rfl
theorem p90 (v52 : Vec Ideal S256x128 .f32) : k0_pay90 v52 = dr256 (k0_pay88 v52) := rfl
theorem p91 (v52 : Vec Ideal S256x128 .f32) : k0_pay91 v52 = mn256 (k0_pay90 v52) := rfl
theorem p92 (v52 : Vec Ideal S256x128 .f32) : k0_pay92 v52 = dr256 (k0_pay90 v52) := rfl
theorem p93 (v52 : Vec Ideal S256x128 .f32) : k0_pay93 v52 = mn256 (k0_pay92 v52) := rfl
theorem p94 (v52 : Vec Ideal S256x128 .f32) : k0_pay94 v52 = dr256 (k0_pay92 v52) := rfl
theorem p95 (v52 : Vec Ideal S256x128 .f32) : k0_pay95 v52 = mn256 (k0_pay94 v52) := rfl
theorem p100 (v53 : Vec Ideal S256x128 .f32) : k0_pay100 v53 = mn256 v53 := rfl
theorem p101 (v53 : Vec Ideal S256x128 .f32) : k0_pay101 v53 = dr256 v53 := rfl
theorem p102 (v53 : Vec Ideal S256x128 .f32) : k0_pay102 v53 = mn256 (k0_pay101 v53) := rfl
theorem p103 (v53 : Vec Ideal S256x128 .f32) : k0_pay103 v53 = dr256 (k0_pay101 v53) := rfl
theorem p104 (v53 : Vec Ideal S256x128 .f32) : k0_pay104 v53 = mn256 (k0_pay103 v53) := rfl
theorem p105 (v53 : Vec Ideal S256x128 .f32) : k0_pay105 v53 = dr256 (k0_pay103 v53) := rfl
theorem p106 (v53 : Vec Ideal S256x128 .f32) : k0_pay106 v53 = mn256 (k0_pay105 v53) := rfl
theorem p107 (v53 : Vec Ideal S256x128 .f32) : k0_pay107 v53 = mn256 (dr256 (k0_pay105 v53)) := rfl
theorem p108 (v54 : Vec Ideal S256x128 .f32) : k0_pay108 v54 = mn256 v54 := rfl
theorem p109 (v54 : Vec Ideal S256x128 .f32) : k0_pay109 v54 = dr256 v54 := rfl
theorem p115 (v55 : Vec Ideal S256x128 .f32) : k0_pay115 v55 = mn256 v55 := rfl
theorem p116 (v55 : Vec Ideal S256x128 .f32) : k0_pay116 v55 = dr256 v55 := rfl
theorem p117 (v55 : Vec Ideal S256x128 .f32) : k0_pay117 v55 = mn256 (k0_pay116 v55) := rfl
theorem p118 (v55 : Vec Ideal S256x128 .f32) : k0_pay118 v55 = mn256 (dr256 (k0_pay116 v55)) := rfl
theorem p119 (v56 : Vec Ideal S256x128 .f32) : k0_pay119 v56 = mn256 v56 := rfl
theorem p120 (v56 : Vec Ideal S256x128 .f32) : k0_pay120 v56 = mn256 (dr256 v56) := rfl
theorem p121 (v57 : Vec Ideal S256x128 .f32) : k0_pay121 v57 = mn256 v57 := rfl
theorem p122 (v57 : Vec Ideal S256x128 .f32) : k0_pay122 v57 = mn256 (dr256 v57) := rfl
theorem p96 (a : Vec Ideal S256x128 .f32) : k0_pay96 a = bc256 (k0_pay94 a) := rfl
theorem p98 (a : Vec Ideal S256x128 .f32) : k0_pay98 a (bc256 a) = mn256 (dr256 a) := rfl
theorem p99 (a : Vec Ideal S256x128 .f32) : k0_pay99 a (bc256 a) = mn256 (dr256 (dr256 a)) := rfl
theorem p110 (a : Vec Ideal S256x128 .f32) : k0_pay110 a = red256 (k0_pay109 a) := rfl
theorem p111 (a : Vec Ideal S256x128 .f32) : k0_pay111 (red256 a) = mn256 a := rfl
theorem p113 (a : Vec Ideal S256x128 .f32) : k0_pay113 a (red256 a) = mn256 (dr256 a) := rfl
theorem p114 (a : Vec Ideal S256x128 .f32) : k0_pay114 a (red256 a) = mn256 (dr256 (dr256 a)) := rfl
theorem p123 (a : Vec Ideal S256x128 .f32) : shapeCast S1x128 (k0_pay123 a) shapeCasts_S128_S1x128 = mn256 a := rfl
theorem p2 (a : Vec Ideal S256x128 .f32) : k0_pay2 a (k0_pay1 a (mn256 a)) = dr256 a := rfl

/-! ### The network's steps, entry by entry -/

theorem q14 (v3 : FVec Ideal S2048x128 .f32) (v5 : FVec Ideal S2048x128 .f32) (i : S256x128.Idx) : (k0_pay14 (F := Ideal) v3 v5 i : EReal) = min ((k0_pay6 (F := Ideal) v3 v5) i : EReal) ((k0_pay7 (F := Ideal) v3 v5) i : EReal) := rfl
theorem q15 (v3 : FVec Ideal S2048x128 .f32) (v5 : FVec Ideal S2048x128 .f32) (i : S256x128.Idx) : (k0_pay15 (F := Ideal) v3 v5 i : EReal) = max ((k0_pay6 (F := Ideal) v3 v5) i : EReal) ((k0_pay7 (F := Ideal) v3 v5) i : EReal) := rfl
theorem q16 (v3 : FVec Ideal S2048x128 .f32) (v5 : FVec Ideal S2048x128 .f32) (i : S256x128.Idx) : (k0_pay16 (F := Ideal) v3 v5 i : EReal) = min ((k0_pay8 (F := Ideal) v3 v5) i : EReal) ((k0_pay9 (F := Ideal) v3 v5) i : EReal) := rfl
theorem q17 (v3 : FVec Ideal S2048x128 .f32) (v5 : FVec Ideal S2048x128 .f32) (i : S256x128.Idx) : (k0_pay17 (F := Ideal) v3 v5 i : EReal) = max ((k0_pay8 (F := Ideal) v3 v5) i : EReal) ((k0_pay9 (F := Ideal) v3 v5) i : EReal) := rfl
theorem q18 (v3 : FVec Ideal S2048x128 .f32) (v5 : FVec Ideal S2048x128 .f32) (i : S256x128.Idx) : (k0_pay18 (F := Ideal) v3 v5 i : EReal) = min ((k0_pay10 (F := Ideal) v3 v5) i : EReal) ((k0_pay11 (F := Ideal) v3 v5) i : EReal) := rfl
theorem q19 (v3 : FVec Ideal S2048x128 .f32) (v5 : FVec Ideal S2048x128 .f32) (i : S256x128.Idx) : (k0_pay19 (F := Ideal) v3 v5 i : EReal) = max ((k0_pay10 (F := Ideal) v3 v5) i : EReal) ((k0_pay11 (F := Ideal) v3 v5) i : EReal) := rfl
theorem q20 (v3 : FVec Ideal S2048x128 .f32) (v5 : FVec Ideal S2048x128 .f32) (i : S256x128.Idx) : (k0_pay20 (F := Ideal) v3 v5 i : EReal) = min ((k0_pay12 (F := Ideal) v3 v5) i : EReal) ((k0_pay13 (F := Ideal) v3 v5) i : EReal) := rfl
theorem q21 (v3 : FVec Ideal S2048x128 .f32) (v5 : FVec Ideal S2048x128 .f32) (i : S256x128.Idx) : (k0_pay21 (F := Ideal) v3 v5 i : EReal) = max ((k0_pay12 (F := Ideal) v3 v5) i : EReal) ((k0_pay13 (F := Ideal) v3 v5) i : EReal) := rfl
theorem q22 (v3 : FVec Ideal S2048x128 .f32) (v5 : FVec Ideal S2048x128 .f32) (i : S256x128.Idx) : (k0_pay22 (F := Ideal) v3 v5 i : EReal) = min ((k0_pay14 (F := Ideal) v3 v5) i : EReal) ((k0_pay16 (F := Ideal) v3 v5) i : EReal) := rfl
theorem q23 (v3 : FVec Ideal S2048x128 .f32) (v5 : FVec Ideal S2048x128 .f32) (i : S256x128.Idx) : (k0_pay23 (F := Ideal) v3 v5 i : EReal) = max ((k0_pay14 (F := Ideal) v3 v5) i : EReal) ((k0_pay16 (F := Ideal) v3 v5) i : EReal) := rfl
theorem q24 (v3 : FVec Ideal S2048x128 .f32) (v5 : FVec Ideal S2048x128 .f32) (i : S256x128.Idx) : (k0_pay24 (F := Ideal) v3 v5 i : EReal) = min ((k0_pay15 (F := Ideal) v3 v5) i : EReal) ((k0_pay17 (F := Ideal) v3 v5) i : EReal) := rfl
theorem q25 (v3 : FVec Ideal S2048x128 .f32) (v5 : FVec Ideal S2048x128 .f32) (i : S256x128.Idx) : (k0_pay25 (F := Ideal) v3 v5 i : EReal) = max ((k0_pay15 (F := Ideal) v3 v5) i : EReal) ((k0_pay17 (F := Ideal) v3 v5) i : EReal) := rfl
theorem q26 (v3 : FVec Ideal S2048x128 .f32) (v5 : FVec Ideal S2048x128 .f32) (i : S256x128.Idx) : (k0_pay26 (F := Ideal) v3 v5 i : EReal) = min ((k0_pay18 (F := Ideal) v3 v5) i : EReal) ((k0_pay20 (F := Ideal) v3 v5) i : EReal) := rfl
theorem q27 (v3 : FVec Ideal S2048x128 .f32) (v5 : FVec Ideal S2048x128 .f32) (i : S256x128.Idx) : (k0_pay27 (F := Ideal) v3 v5 i : EReal) = max ((k0_pay18 (F := Ideal) v3 v5) i : EReal) ((k0_pay20 (F := Ideal) v3 v5) i : EReal) := rfl
theorem q28 (v3 : FVec Ideal S2048x128 .f32) (v5 : FVec Ideal S2048x128 .f32) (i : S256x128.Idx) : (k0_pay28 (F := Ideal) v3 v5 i : EReal) = min ((k0_pay19 (F := Ideal) v3 v5) i : EReal) ((k0_pay21 (F := Ideal) v3 v5) i : EReal) := rfl
theorem q29 (v3 : FVec Ideal S2048x128 .f32) (v5 : FVec Ideal S2048x128 .f32) (i : S256x128.Idx) : (k0_pay29 (F := Ideal) v3 v5 i : EReal) = max ((k0_pay19 (F := Ideal) v3 v5) i : EReal) ((k0_pay21 (F := Ideal) v3 v5) i : EReal) := rfl
theorem q30 (v3 : FVec Ideal S2048x128 .f32) (v5 : FVec Ideal S2048x128 .f32) (i : S256x128.Idx) : (k0_pay30 (F := Ideal) v3 v5 i : EReal) = min ((k0_pay24 (F := Ideal) v3 v5) i : EReal) ((k0_pay23 (F := Ideal) v3 v5) i : EReal) := rfl
theorem q31 (v3 : FVec Ideal S2048x128 .f32) (v5 : FVec Ideal S2048x128 .f32) (i : S256x128.Idx) : (k0_pay31 (F := Ideal) v3 v5 i : EReal) = max ((k0_pay24 (F := Ideal) v3 v5) i : EReal) ((k0_pay23 (F := Ideal) v3 v5) i : EReal) := rfl
theorem q32 (v3 : FVec Ideal S2048x128 .f32) (v5 : FVec Ideal S2048x128 .f32) (i : S256x128.Idx) : (k0_pay32 (F := Ideal) v3 v5 i : EReal) = min ((k0_pay28 (F := Ideal) v3 v5) i : EReal) ((k0_pay27 (F := Ideal) v3 v5) i : EReal) := rfl
theorem q33 (v3 : FVec Ideal S2048x128 .f32) (v5 : FVec Ideal S2048x128 .f32) (i : S256x128.Idx) : (k0_pay33 (F := Ideal) v3 v5 i : EReal) = max ((k0_pay28 (F := Ideal) v3 v5) i : EReal) ((k0_pay27 (F := Ideal) v3 v5) i : EReal) := rfl
theorem q34 (v3 : FVec Ideal S2048x128 .f32) (v5 : FVec Ideal S2048x128 .f32) (i : S256x128.Idx) : (k0_pay34 (F := Ideal) v3 v5 i : EReal) = min ((k0_pay22 (F := Ideal) v3 v5) i : EReal) ((k0_pay26 (F := Ideal) v3 v5) i : EReal) := rfl
theorem q35 (v3 : FVec Ideal S2048x128 .f32) (v5 : FVec Ideal S2048x128 .f32) (i : S256x128.Idx) : (k0_pay35 (F := Ideal) v3 v5 i : EReal) = max ((k0_pay22 (F := Ideal) v3 v5) i : EReal) ((k0_pay26 (F := Ideal) v3 v5) i : EReal) := rfl
theorem q36 (v3 : FVec Ideal S2048x128 .f32) (v5 : FVec Ideal S2048x128 .f32) (i : S256x128.Idx) : (k0_pay36 (F := Ideal) v3 v5 i : EReal) = min ((k0_pay30 (F := Ideal) v3 v5) i : EReal) ((k0_pay32 (F := Ideal) v3 v5) i : EReal) := rfl
theorem q37 (v3 : FVec Ideal S2048x128 .f32) (v5 : FVec Ideal S2048x128 .f32) (i : S256x128.Idx) : (k0_pay37 (F := Ideal) v3 v5 i : EReal) = max ((k0_pay30 (F := Ideal) v3 v5) i : EReal) ((k0_pay32 (F := Ideal) v3 v5) i : EReal) := rfl
theorem q38 (v3 : FVec Ideal S2048x128 .f32) (v5 : FVec Ideal S2048x128 .f32) (i : S256x128.Idx) : (k0_pay38 (F := Ideal) v3 v5 i : EReal) = min ((k0_pay31 (F := Ideal) v3 v5) i : EReal) ((k0_pay33 (F := Ideal) v3 v5) i : EReal) := rfl
theorem q39 (v3 : FVec Ideal S2048x128 .f32) (v5 : FVec Ideal S2048x128 .f32) (i : S256x128.Idx) : (k0_pay39 (F := Ideal) v3 v5 i : EReal) = max ((k0_pay31 (F := Ideal) v3 v5) i : EReal) ((k0_pay33 (F := Ideal) v3 v5) i : EReal) := rfl
theorem q40 (v3 : FVec Ideal S2048x128 .f32) (v5 : FVec Ideal S2048x128 .f32) (i : S256x128.Idx) : (k0_pay40 (F := Ideal) v3 v5 i : EReal) = min ((k0_pay25 (F := Ideal) v3 v5) i : EReal) ((k0_pay29 (F := Ideal) v3 v5) i : EReal) := rfl
theorem q41 (v3 : FVec Ideal S2048x128 .f32) (v5 : FVec Ideal S2048x128 .f32) (i : S256x128.Idx) : (k0_pay41 (F := Ideal) v3 v5 i : EReal) = max ((k0_pay25 (F := Ideal) v3 v5) i : EReal) ((k0_pay29 (F := Ideal) v3 v5) i : EReal) := rfl
theorem q42 (v3 : FVec Ideal S2048x128 .f32) (v5 : FVec Ideal S2048x128 .f32) (i : S256x128.Idx) : (k0_pay42 (F := Ideal) v3 v5 i : EReal) = min ((k0_pay38 (F := Ideal) v3 v5) i : EReal) ((k0_pay35 (F := Ideal) v3 v5) i : EReal) := rfl
theorem q43 (v3 : FVec Ideal S2048x128 .f32) (v5 : FVec Ideal S2048x128 .f32) (i : S256x128.Idx) : (k0_pay43 (F := Ideal) v3 v5 i : EReal) = max ((k0_pay38 (F := Ideal) v3 v5) i : EReal) ((k0_pay35 (F := Ideal) v3 v5) i : EReal) := rfl
theorem q44 (v43 : FVec Ideal S256x128 .f32) (v46 : FVec Ideal S256x128 .f32) (i : S256x128.Idx) : (k0_pay44 (F := Ideal) v43 v46 i : EReal) = min (v46 i : EReal) (v43 i : EReal) := rfl
theorem q45 (v43 : FVec Ideal S256x128 .f32) (v46 : FVec Ideal S256x128 .f32) (i : S256x128.Idx) : (k0_pay45 (F := Ideal) v43 v46 i : EReal) = max (v46 i : EReal) (v43 i : EReal) := rfl
theorem q46 (v42 : FVec Ideal S256x128 .f32) (v48 : FVec Ideal S256x128 .f32) (i : S256x128.Idx) : (k0_pay46 (F := Ideal) v42 v48 i : EReal) = min (v42 i : EReal) (v48 i : EReal) := rfl
theorem q47 (v42 : FVec Ideal S256x128 .f32) (v48 : FVec Ideal S256x128 .f32) (i : S256x128.Idx) : (k0_pay47 (F := Ideal) v42 v48 i : EReal) = max (v42 i : EReal) (v48 i : EReal) := rfl
theorem q48 (v43 : FVec Ideal S256x128 .f32) (v46 : FVec Ideal S256x128 .f32) (v49 : FVec Ideal S256x128 .f32) (i : S256x128.Idx) : (k0_pay48 (F := Ideal) v43 v46 v49 i : EReal) = min ((k0_pay44 (F := Ideal) v43 v46) i : EReal) (v49 i : EReal) := rfl
theorem q49 (v43 : FVec Ideal S256x128 .f32) (v46 : FVec Ideal S256x128 .f32) (v49 : FVec Ideal S256x128 .f32) (i : S256x128.Idx) : (k0_pay49 (F := Ideal) v43 v46 v49 i : EReal) = max ((k0_pay44 (F := Ideal) v43 v46) i : EReal) (v49 i : EReal) := rfl
theorem q50 (v43 : FVec Ideal S256x128 .f32) (v45 : FVec Ideal S256x128 .f32) (v46 : FVec Ideal S256x128 .f32) (i : S256x128.Idx) : (k0_pay50 (F := Ideal) v43 v45 v46 i : EReal) = min ((k0_pay45 (F := Ideal) v43 v46) i : EReal) (v45 i : EReal) := rfl
theorem q51 (v43 : FVec Ideal S256x128 .f32) (v45 : FVec Ideal S256x128 .f32) (v46 : FVec Ideal S256x128 .f32) (i : S256x128.Idx) : (k0_pay51 (F := Ideal) v43 v45 v46 i : EReal) = max ((k0_pay45 (F := Ideal) v43 v46) i : EReal) (v45 i : EReal) := rfl

end Cert.KernelIdeal.Gen
-- ==== Proof.SelectNet.lean ====
module

public import proofs.«01_k».proof.Proof.SelectSteps

/-!
The block the selection kernel stores, lane by lane, is `Cert.Hardest.step` of the pool before and the
block's margins.
-/

set_option maxRecDepth 65536

@[expose] public section

noncomputable section

namespace Cert.KernelIdeal.Gen

open Idealize.ShloMosaic Idealize.SL.Sem
open Cert.Hardest

/-! ### The eight slabs and the network -/

theorem slab0 (x t : FVec Ideal S2048x128 .f32) (r : Fin 256) (l : Fin 128) :
    k0_pay6 (F := Ideal) x t (ix2 r l) = k0_pay5 (F := Ideal) x t (ix2 ⟨256 * 0 + r.val, by omega⟩ l) := by
  unfold k0_pay6
  refine congrArg (k0_pay5 (F := Ideal) x t) (funext fun b => Fin.ext ?_)
  fin_cases b
  · show 0 + r.val = 256 * 0 + r.val; omega
  · show 0 + l.val = l.val; omega

theorem slab1 (x t : FVec Ideal S2048x128 .f32) (r : Fin 256) (l : Fin 128) :
    k0_pay7 (F := Ideal) x t (ix2 r l) = k0_pay5 (F := Ideal) x t (ix2 ⟨256 * 1 + r.val, by omega⟩ l) := by
  unfold k0_pay7
  refine congrArg (k0_pay5 (F := Ideal) x t) (funext fun b => Fin.ext ?_)
  fin_cases b
  · show 256 + r.val = 256 * 1 + r.val; omega
  · show 0 + l.val = l.val; omega

theorem slab2 (x t : FVec Ideal S2048x128 .f32) (r : Fin 256) (l : Fin 128) :
    k0_pay8 (F := Ideal) x t (ix2 r l) = k0_pay5 (F := Ideal) x t (ix2 ⟨256 * 2 + r.val, by omega⟩ l) := by
  unfold k0_pay8
  refine congrArg (k0_pay5 (F := Ideal) x t) (funext fun b => Fin.ext ?_)
  fin_cases b
  · show 512 + r.val = 256 * 2 + r.val; omega
  · show 0 + l.val = l.val; omega

theorem slab3 (x t : FVec Ideal S2048x128 .f32) (r : Fin 256) (l : Fin 128) :
    k0_pay9 (F := Ideal) x t (ix2 r l) = k0_pay5 (F := Ideal) x t (ix2 ⟨256 * 3 + r.val, by omega⟩ l) := by
  unfold k0_pay9
  refine congrArg (k0_pay5 (F := Ideal) x t) (funext fun b => Fin.ext ?_)
  fin_cases b
  · show 768 + r.val = 256 * 3 + r.val; omega
  · show 0 + l.val = l.val; omega

theorem slab4 (x t : FVec Ideal S2048x128 .f32) (r : Fin 256) (l : Fin 128) :
    k0_pay10 (F := Ideal) x t (ix2 r l) = k0_pay5 (F := Ideal) x t (ix2 ⟨256 * 4 + r.val, by omega⟩ l) := by
  unfold k0_pay10
  refine congrArg (k0_pay5 (F := Ideal) x t) (funext fun b => Fin.ext ?_)
  fin_cases b
  · show 1024 + r.val = 256 * 4 + r.val; omega
  · show 0 + l.val = l.val; omega

theorem slab5 (x t : FVec Ideal S2048x128 .f32) (r : Fin 256) (l : Fin 128) :
    k0_pay11 (F := Ideal) x t (ix2 r l) = k0_pay5 (F := Ideal) x t (ix2 ⟨256 * 5 + r.val, by omega⟩ l) := by
  unfold k0_pay11
  refine congrArg (k0_pay5 (F := Ideal) x t) (funext fun b => Fin.ext ?_)
  fin_cases b
  · show 1280 + r.val = 256 * 5 + r.val; omega
  · show 0 + l.val = l.val; omega

theorem slab6 (x t : FVec Ideal S2048x128 .f32) (r : Fin 256) (l : Fin 128) :
    k0_pay12 (F := Ideal) x t (ix2 r l) = k0_pay5 (F := Ideal) x t (ix2 ⟨256 * 6 + r.val, by omega⟩ l) := by
  unfold k0_pay12
  refine congrArg (k0_pay5 (F := Ideal) x t) (funext fun b => Fin.ext ?_)
  fin_cases b
  · show 1536 + r.val = 256 * 6 + r.val; omega
  · show 0 + l.val = l.val; omega

theorem slab7 (x t : FVec Ideal S2048x128 .f32) (r : Fin 256) (l : Fin 128) :
    k0_pay13 (F := Ideal) x t (ix2 r l) = k0_pay5 (F := Ideal) x t (ix2 ⟨256 * 7 + r.val, by omega⟩ l) := by
  unfold k0_pay13
  refine congrArg (k0_pay5 (F := Ideal) x t) (funext fun b => Fin.ext ?_)
  fin_cases b
  · show 1792 + r.val = 256 * 7 + r.val; omega
  · show 0 + l.val = l.val; omega

theorem net0 (x t : FVec Ideal S2048x128 .f32) (l : Fin 128) :
    col (k0_pay34 (F := Ideal) x t) l = slabs (col (k0_pay5 (F := Ideal) x t) l) 0 := by
  funext r
  simp only [col, slabs, q14, q15, q16, q17, q18, q19, q20, q21, q22, q23, q24, q25, q26, q27, q28, q29, q30, q31, q32, q33, q34, q35, q36, q37, q38, q39, q40, q41, q42, q43, q44, q45, q46, q47, q48, q49, q50, q51, slab0, slab1, slab2, slab3, slab4, slab5, slab6, slab7]
  rfl

theorem net1 (x t : FVec Ideal S2048x128 .f32) (l : Fin 128) :
    col (k0_pay46 (F := Ideal) (k0_pay36 (F := Ideal) x t) (k0_pay42 (F := Ideal) x t)) l = slabs (col (k0_pay5 (F := Ideal) x t) l) 1 := by
  funext r
  simp only [col, slabs, q14, q15, q16, q17, q18, q19, q20, q21, q22, q23, q24, q25, q26, q27, q28, q29, q30, q31, q32, q33, q34, q35, q36, q37, q38, q39, q40, q41, q42, q43, q44, q45, q46, q47, q48, q49, q50, q51, slab0, slab1, slab2, slab3, slab4, slab5, slab6, slab7]
  rfl

theorem net2 (x t : FVec Ideal S2048x128 .f32) (l : Fin 128) :
    col (k0_pay47 (F := Ideal) (k0_pay36 (F := Ideal) x t) (k0_pay42 (F := Ideal) x t)) l = slabs (col (k0_pay5 (F := Ideal) x t) l) 2 := by
  funext r
  simp only [col, slabs, q14, q15, q16, q17, q18, q19, q20, q21, q22, q23, q24, q25, q26, q27, q28, q29, q30, q31, q32, q33, q34, q35, q36, q37, q38, q39, q40, q41, q42, q43, q44, q45, q46, q47, q48, q49, q50, q51, slab0, slab1, slab2, slab3, slab4, slab5, slab6, slab7]
  rfl

theorem net3 (x t : FVec Ideal S2048x128 .f32) (l : Fin 128) :
    col (k0_pay48 (F := Ideal) (k0_pay37 (F := Ideal) x t) (k0_pay40 (F := Ideal) x t) (k0_pay43 (F := Ideal) x t)) l = slabs (col (k0_pay5 (F := Ideal) x t) l) 3 := by
  funext r
  simp only [col, slabs, q14, q15, q16, q17, q18, q19, q20, q21, q22, q23, q24, q25, q26, q27, q28, q29, q30, q31, q32, q33, q34, q35, q36, q37, q38, q39, q40, q41, q42, q43, q44, q45, q46, q47, q48, q49, q50, q51, slab0, slab1, slab2, slab3, slab4, slab5, slab6, slab7]
  rfl

theorem net4 (x t : FVec Ideal S2048x128 .f32) (l : Fin 128) :
    col (k0_pay49 (F := Ideal) (k0_pay37 (F := Ideal) x t) (k0_pay40 (F := Ideal) x t) (k0_pay43 (F := Ideal) x t)) l = slabs (col (k0_pay5 (F := Ideal) x t) l) 4 := by
  funext r
  simp only [col, slabs, q14, q15, q16, q17, q18, q19, q20, q21, q22, q23, q24, q25, q26, q27, q28, q29, q30, q31, q32, q33, q34, q35, q36, q37, q38, q39, q40, q41, q42, q43, q44, q45, q46, q47, q48, q49, q50, q51, slab0, slab1, slab2, slab3, slab4, slab5, slab6, slab7]
  rfl

theorem net5 (x t : FVec Ideal S2048x128 .f32) (l : Fin 128) :
    col (k0_pay50 (F := Ideal) (k0_pay37 (F := Ideal) x t) (k0_pay39 (F := Ideal) x t) (k0_pay40 (F := Ideal) x t)) l = slabs (col (k0_pay5 (F := Ideal) x t) l) 5 := by
  funext r
  simp only [col, slabs, q14, q15, q16, q17, q18, q19, q20, q21, q22, q23, q24, q25, q26, q27, q28, q29, q30, q31, q32, q33, q34, q35, q36, q37, q38, q39, q40, q41, q42, q43, q44, q45, q46, q47, q48, q49, q50, q51, slab0, slab1, slab2, slab3, slab4, slab5, slab6, slab7]
  rfl

theorem net6 (x t : FVec Ideal S2048x128 .f32) (l : Fin 128) :
    col (k0_pay51 (F := Ideal) (k0_pay37 (F := Ideal) x t) (k0_pay39 (F := Ideal) x t) (k0_pay40 (F := Ideal) x t)) l = slabs (col (k0_pay5 (F := Ideal) x t) l) 6 := by
  funext r
  simp only [col, slabs, q14, q15, q16, q17, q18, q19, q20, q21, q22, q23, q24, q25, q26, q27, q28, q29, q30, q31, q32, q33, q34, q35, q36, q37, q38, q39, q40, q41, q42, q43, q44, q45, q46, q47, q48, q49, q50, q51, slab0, slab1, slab2, slab3, slab4, slab5, slab6, slab7]
  rfl

theorem net7 (x t : FVec Ideal S2048x128 .f32) (l : Fin 128) :
    col (k0_pay41 (F := Ideal) x t) l = slabs (col (k0_pay5 (F := Ideal) x t) l) 7 := by
  funext r
  simp only [col, slabs, q14, q15, q16, q17, q18, q19, q20, q21, q22, q23, q24, q25, q26, q27, q28, q29, q30, q31, q32, q33, q34, q35, q36, q37, q38, q39, q40, q41, q42, q43, q44, q45, q46, q47, q48, q49, q50, q51, slab0, slab1, slab2, slab3, slab4, slab5, slab6, slab7]
  rfl

theorem col_first (g : FVec Ideal S256x128 .f32) (o : FVec Ideal S48x128 .f32) (l : Fin 128) :
    col (k0_pay52 (F := Ideal) g o) l = withOld (col g l) (col o l) := by
  funext i
  unfold withOld
  show k0_pay52 (F := Ideal) g o (ix2 i l) = _
  unfold k0_pay52
  simp only [shapeCast_self]
  by_cases h : i.val < 256
  · rw [dif_pos h]
    exact concatenate_pair_apply_left 0 g o _ (ix2 i l) rfl (ix2 ⟨i.val, h⟩ l) fun b => by fin_cases b <;> rfl
  · rw [dif_neg h]
    refine concatenate_pair_apply_right 0 g o _ (ix2 i l) rfl rfl (ix2 ⟨i.val - 256, by omega⟩ l) (fun b hb => ?_) ?_
    · fin_cases b
      · exact absurd rfl hb
      · rfl
    · show i.val - 256 + 256 = i.val
      omega

/-! ### The minima kept -/

theorem kept0 (g : FVec Ideal S256x128 .f32) (o : FVec Ideal S48x128 .f32) (l : Fin 128) : (k0_pay53 (F := Ideal) g o) (ix2 0 l) = ex (col (k0_pay52 (F := Ideal) g o) l) 0 := by
  simp only [p53, p54, p55, p56, p57, p58, p59, p60, p61, p62, p63, p64, p65, p66, p67, p68, p69, p70, p71, p72, p73, p74, p75, p76, p77, p78, p79, p80, p81, p82, p83, p84, mn304_apply, col_dr304]; rfl

theorem kept1 (g : FVec Ideal S256x128 .f32) (o : FVec Ideal S48x128 .f32) (l : Fin 128) : (k0_pay55 (F := Ideal) g o) (ix2 0 l) = ex (col (k0_pay52 (F := Ideal) g o) l) 1 := by
  simp only [p53, p54, p55, p56, p57, p58, p59, p60, p61, p62, p63, p64, p65, p66, p67, p68, p69, p70, p71, p72, p73, p74, p75, p76, p77, p78, p79, p80, p81, p82, p83, p84, mn304_apply, col_dr304]; rfl

theorem kept2 (g : FVec Ideal S256x128 .f32) (o : FVec Ideal S48x128 .f32) (l : Fin 128) : (k0_pay57 (F := Ideal) g o) (ix2 0 l) = ex (col (k0_pay52 (F := Ideal) g o) l) 2 := by
  simp only [p53, p54, p55, p56, p57, p58, p59, p60, p61, p62, p63, p64, p65, p66, p67, p68, p69, p70, p71, p72, p73, p74, p75, p76, p77, p78, p79, p80, p81, p82, p83, p84, mn304_apply, col_dr304]; rfl

theorem kept3 (g : FVec Ideal S256x128 .f32) (o : FVec Ideal S48x128 .f32) (l : Fin 128) : (k0_pay59 (F := Ideal) g o) (ix2 0 l) = ex (col (k0_pay52 (F := Ideal) g o) l) 3 := by
  simp only [p53, p54, p55, p56, p57, p58, p59, p60, p61, p62, p63, p64, p65, p66, p67, p68, p69, p70, p71, p72, p73, p74, p75, p76, p77, p78, p79, p80, p81, p82, p83, p84, mn304_apply, col_dr304]; rfl

theorem kept4 (g : FVec Ideal S256x128 .f32) (o : FVec Ideal S48x128 .f32) (l : Fin 128) : (k0_pay61 (F := Ideal) g o) (ix2 0 l) = ex (col (k0_pay52 (F := Ideal) g o) l) 4 := by
  simp only [p53, p54, p55, p56, p57, p58, p59, p60, p61, p62, p63, p64, p65, p66, p67, p68, p69, p70, p71, p72, p73, p74, p75, p76, p77, p78, p79, p80, p81, p82, p83, p84, mn304_apply, col_dr304]; rfl

theorem kept5 (g : FVec Ideal S256x128 .f32) (o : FVec Ideal S48x128 .f32) (l : Fin 128) : (k0_pay63 (F := Ideal) g o) (ix2 0 l) = ex (col (k0_pay52 (F := Ideal) g o) l) 5 := by
  simp only [p53, p54, p55, p56, p57, p58, p59, p60, p61, p62, p63, p64, p65, p66, p67, p68, p69, p70, p71, p72, p73, p74, p75, p76, p77, p78, p79, p80, p81, p82, p83, p84, mn304_apply, col_dr304]; rfl

theorem kept6 (g : FVec Ideal S256x128 .f32) (o : FVec Ideal S48x128 .f32) (l : Fin 128) : (k0_pay67 (F := Ideal) (k0_pay62 (F := Ideal) g o) (k0_pay64 (F := Ideal) g o) (k0_pay65 (F := Ideal))) (ix2 0 l) = ex (col (k0_pay52 (F := Ideal) g o) l) 6 := by
  simp only [p53, p54, p55, p56, p57, p58, p59, p60, p61, p62, p63, p64, p65, p66, p67, p68, p69, p70, p71, p72, p73, p74, p75, p76, p77, p78, p79, p80, p81, p82, p83, p84, mn304_apply, col_dr304]; rfl

theorem kept7 (g : FVec Ideal S256x128 .f32) (o : FVec Ideal S48x128 .f32) (l : Fin 128) : (k0_pay69 (F := Ideal) (k0_pay62 (F := Ideal) g o) (k0_pay64 (F := Ideal) g o) (k0_pay65 (F := Ideal))) (ix2 0 l) = ex (col (k0_pay52 (F := Ideal) g o) l) 7 := by
  simp only [p53, p54, p55, p56, p57, p58, p59, p60, p61, p62, p63, p64, p65, p66, p67, p68, p69, p70, p71, p72, p73, p74, p75, p76, p77, p78, p79, p80, p81, p82, p83, p84, mn304_apply, col_dr304]; rfl

theorem kept8 (g : FVec Ideal S256x128 .f32) (o : FVec Ideal S48x128 .f32) (l : Fin 128) : (k0_pay71 (F := Ideal) (k0_pay62 (F := Ideal) g o) (k0_pay64 (F := Ideal) g o) (k0_pay65 (F := Ideal))) (ix2 0 l) = ex (col (k0_pay52 (F := Ideal) g o) l) 8 := by
  simp only [p53, p54, p55, p56, p57, p58, p59, p60, p61, p62, p63, p64, p65, p66, p67, p68, p69, p70, p71, p72, p73, p74, p75, p76, p77, p78, p79, p80, p81, p82, p83, p84, mn304_apply, col_dr304]; rfl

theorem kept9 (g : FVec Ideal S256x128 .f32) (o : FVec Ideal S48x128 .f32) (l : Fin 128) : (k0_pay73 (F := Ideal) (k0_pay62 (F := Ideal) g o) (k0_pay64 (F := Ideal) g o) (k0_pay65 (F := Ideal))) (ix2 0 l) = ex (col (k0_pay52 (F := Ideal) g o) l) 9 := by
  simp only [p53, p54, p55, p56, p57, p58, p59, p60, p61, p62, p63, p64, p65, p66, p67, p68, p69, p70, p71, p72, p73, p74, p75, p76, p77, p78, p79, p80, p81, p82, p83, p84, mn304_apply, col_dr304]; rfl

theorem kept10 (g : FVec Ideal S256x128 .f32) (o : FVec Ideal S48x128 .f32) (l : Fin 128) : (k0_pay75 (F := Ideal) (k0_pay62 (F := Ideal) g o) (k0_pay64 (F := Ideal) g o) (k0_pay65 (F := Ideal))) (ix2 0 l) = ex (col (k0_pay52 (F := Ideal) g o) l) 10 := by
  simp only [p53, p54, p55, p56, p57, p58, p59, p60, p61, p62, p63, p64, p65, p66, p67, p68, p69, p70, p71, p72, p73, p74, p75, p76, p77, p78, p79, p80, p81, p82, p83, p84, mn304_apply, col_dr304]; rfl

theorem kept11 (g : FVec Ideal S256x128 .f32) (o : FVec Ideal S48x128 .f32) (l : Fin 128) : (k0_pay77 (F := Ideal) (k0_pay62 (F := Ideal) g o) (k0_pay64 (F := Ideal) g o) (k0_pay65 (F := Ideal))) (ix2 0 l) = ex (col (k0_pay52 (F := Ideal) g o) l) 11 := by
  simp only [p53, p54, p55, p56, p57, p58, p59, p60, p61, p62, p63, p64, p65, p66, p67, p68, p69, p70, p71, p72, p73, p74, p75, p76, p77, p78, p79, p80, p81, p82, p83, p84, mn304_apply, col_dr304]; rfl

theorem kept12 (g : FVec Ideal S256x128 .f32) (o : FVec Ideal S48x128 .f32) (l : Fin 128) : (k0_pay79 (F := Ideal) (k0_pay62 (F := Ideal) g o) (k0_pay64 (F := Ideal) g o) (k0_pay65 (F := Ideal))) (ix2 0 l) = ex (col (k0_pay52 (F := Ideal) g o) l) 12 := by
  simp only [p53, p54, p55, p56, p57, p58, p59, p60, p61, p62, p63, p64, p65, p66, p67, p68, p69, p70, p71, p72, p73, p74, p75, p76, p77, p78, p79, p80, p81, p82, p83, p84, mn304_apply, col_dr304]; rfl

theorem kept13 (g : FVec Ideal S256x128 .f32) (o : FVec Ideal S48x128 .f32) (l : Fin 128) : (k0_pay81 (F := Ideal) (k0_pay62 (F := Ideal) g o) (k0_pay64 (F := Ideal) g o) (k0_pay65 (F := Ideal))) (ix2 0 l) = ex (col (k0_pay52 (F := Ideal) g o) l) 13 := by
  simp only [p53, p54, p55, p56, p57, p58, p59, p60, p61, p62, p63, p64, p65, p66, p67, p68, p69, p70, p71, p72, p73, p74, p75, p76, p77, p78, p79, p80, p81, p82, p83, p84, mn304_apply, col_dr304]; rfl

theorem kept14 (g : FVec Ideal S256x128 .f32) (o : FVec Ideal S48x128 .f32) (l : Fin 128) : (k0_pay83 (F := Ideal) (k0_pay80 (F := Ideal) (k0_pay62 (F := Ideal) g o) (k0_pay64 (F := Ideal) g o) (k0_pay65 (F := Ideal))) (k0_pay81 (F := Ideal) (k0_pay62 (F := Ideal) g o) (k0_pay64 (F := Ideal) g o) (k0_pay65 (F := Ideal)))) (ix2 0 l) = ex (col (k0_pay52 (F := Ideal) g o) l) 14 := by
  simp only [p53, p54, p55, p56, p57, p58, p59, p60, p61, p62, p63, p64, p65, p66, p67, p68, p69, p70, p71, p72, p73, p74, p75, p76, p77, p78, p79, p80, p81, p82, p83, p84, mn304_apply, col_dr304]; rfl

theorem kept15 (g : FVec Ideal S256x128 .f32) (o : FVec Ideal S48x128 .f32) (l : Fin 128) : (k0_pay84 (F := Ideal) (k0_pay80 (F := Ideal) (k0_pay62 (F := Ideal) g o) (k0_pay64 (F := Ideal) g o) (k0_pay65 (F := Ideal))) (k0_pay81 (F := Ideal) (k0_pay62 (F := Ideal) g o) (k0_pay64 (F := Ideal) g o) (k0_pay65 (F := Ideal)))) (ix2 0 l) = ex (col (k0_pay52 (F := Ideal) g o) l) 15 := by
  simp only [p53, p54, p55, p56, p57, p58, p59, p60, p61, p62, p63, p64, p65, p66, p67, p68, p69, p70, p71, p72, p73, p74, p75, p76, p77, p78, p79, p80, p81, p82, p83, p84, mn304_apply, col_dr304]; rfl

theorem kept16 (g : FVec Ideal S256x128 .f32) (l : Fin 128) : (k0_pay85 (F := Ideal) g) (ix2 0 l) = ex (col g l) 0 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept17 (g : FVec Ideal S256x128 .f32) (l : Fin 128) : (k0_pay87 (F := Ideal) g) (ix2 0 l) = ex (col g l) 1 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept18 (g : FVec Ideal S256x128 .f32) (l : Fin 128) : (k0_pay89 (F := Ideal) g) (ix2 0 l) = ex (col g l) 2 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept19 (g : FVec Ideal S256x128 .f32) (l : Fin 128) : (k0_pay91 (F := Ideal) g) (ix2 0 l) = ex (col g l) 3 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept20 (g : FVec Ideal S256x128 .f32) (l : Fin 128) : (k0_pay93 (F := Ideal) g) (ix2 0 l) = ex (col g l) 4 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept21 (g : FVec Ideal S256x128 .f32) (l : Fin 128) : (k0_pay95 (F := Ideal) g) (ix2 0 l) = ex (col g l) 5 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept22 (g : FVec Ideal S256x128 .f32) (l : Fin 128) : (k0_pay98 (F := Ideal) (k0_pay94 (F := Ideal) g) (k0_pay96 (F := Ideal) g)) (ix2 0 l) = ex (col g l) 6 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept23 (g : FVec Ideal S256x128 .f32) (l : Fin 128) : (k0_pay99 (F := Ideal) (k0_pay94 (F := Ideal) g) (k0_pay96 (F := Ideal) g)) (ix2 0 l) = ex (col g l) 7 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept24 (g : FVec Ideal S256x128 .f32) (l : Fin 128) : (k0_pay100 (F := Ideal) g) (ix2 0 l) = ex (col g l) 0 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept25 (g : FVec Ideal S256x128 .f32) (l : Fin 128) : (k0_pay102 (F := Ideal) g) (ix2 0 l) = ex (col g l) 1 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept26 (g : FVec Ideal S256x128 .f32) (l : Fin 128) : (k0_pay104 (F := Ideal) g) (ix2 0 l) = ex (col g l) 2 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept27 (g : FVec Ideal S256x128 .f32) (l : Fin 128) : (k0_pay106 (F := Ideal) g) (ix2 0 l) = ex (col g l) 3 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept28 (g : FVec Ideal S256x128 .f32) (l : Fin 128) : (k0_pay107 (F := Ideal) g) (ix2 0 l) = ex (col g l) 4 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept29 (g : FVec Ideal S256x128 .f32) (l : Fin 128) : (k0_pay108 (F := Ideal) g) (ix2 0 l) = ex (col g l) 0 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept30 (g : FVec Ideal S256x128 .f32) (l : Fin 128) : (k0_pay111 (F := Ideal) (k0_pay110 (F := Ideal) g)) (ix2 0 l) = ex (col g l) 1 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept31 (g : FVec Ideal S256x128 .f32) (l : Fin 128) : (k0_pay113 (F := Ideal) (k0_pay109 (F := Ideal) g) (k0_pay110 (F := Ideal) g)) (ix2 0 l) = ex (col g l) 2 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept32 (g : FVec Ideal S256x128 .f32) (l : Fin 128) : (k0_pay114 (F := Ideal) (k0_pay109 (F := Ideal) g) (k0_pay110 (F := Ideal) g)) (ix2 0 l) = ex (col g l) 3 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept33 (g : FVec Ideal S256x128 .f32) (l : Fin 128) : (k0_pay115 (F := Ideal) g) (ix2 0 l) = ex (col g l) 0 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept34 (g : FVec Ideal S256x128 .f32) (l : Fin 128) : (k0_pay117 (F := Ideal) g) (ix2 0 l) = ex (col g l) 1 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept35 (g : FVec Ideal S256x128 .f32) (l : Fin 128) : (k0_pay118 (F := Ideal) g) (ix2 0 l) = ex (col g l) 2 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept36 (g : FVec Ideal S256x128 .f32) (l : Fin 128) : (k0_pay119 (F := Ideal) g) (ix2 0 l) = ex (col g l) 0 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept37 (g : FVec Ideal S256x128 .f32) (l : Fin 128) : (k0_pay120 (F := Ideal) g) (ix2 0 l) = ex (col g l) 1 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept38 (g : FVec Ideal S256x128 .f32) (l : Fin 128) : (k0_pay121 (F := Ideal) g) (ix2 0 l) = ex (col g l) 0 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept39 (g : FVec Ideal S256x128 .f32) (l : Fin 128) : (k0_pay122 (F := Ideal) g) (ix2 0 l) = ex (col g l) 1 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept40 (g : FVec Ideal S256x128 .f32) (l : Fin 128) : (shapeCast S1x128 (k0_pay123 (F := Ideal) g) shapeCasts_S128_S1x128) (ix2 0 l) = ex (col g l) 0 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

theorem kept41 (g : FVec Ideal S256x128 .f32) (l : Fin 128) : (mn256 (k0_pay2 (F := Ideal) g (k0_pay1 (F := Ideal) g (shapeCast S1x128 (k0_pay123 (F := Ideal) g) shapeCasts_S128_S1x128)))) (ix2 0 l) = ex (col g l) 1 := by
  simp only [p2, p85, p86, p87, p88, p89, p90, p91, p92, p93, p94, p95, p96, p98, p99, p100, p101, p102, p103, p104, p105, p106, p107, p108, p109, p110, p111, p113, p114, p115, p116, p117, p118, p119, p120, p121, p122, p123, mn256_apply, col_dr256]; rfl

end Cert.KernelIdeal.Gen
-- ==== Proof.SelectRows.lean ====
module

public import proofs.«01_k».proof.Proof.SelectSteps

/-!
The block the selection kernel stores, lane by lane, is `Cert.Hardest.step` of the pool before and the
block's margins.
-/

set_option maxRecDepth 65536

@[expose] public section

noncomputable section

namespace Cert.KernelIdeal.Gen

open Idealize.ShloMosaic Idealize.SL.Sem
open Cert.Hardest

/-! ### The stored block's rows -/

/-- The rows one above another, and a padding block. -/
def rowList (L : List (FVec Ideal S1x128 .f32)) (z : FVec Ideal S6x128 .f32) : List ((s : Shape) × (s.Idx → EReal)) :=
  L.map (fun y => ⟨S1x128, y⟩) ++ [⟨S6x128, z⟩]

theorem rowList_before (L : List (FVec Ideal S1x128 .f32)) (z : FVec Ideal S6x128 .f32) (k : ℕ) (hk : k ≤ L.length) :
    ((((rowList L z).take k).map (·.1)).map fun s => if h : s.rank = S48x128.rank then s.size ((0 : Fin S48x128.rank).cast h.symm) else 0).sum = k := by
  unfold rowList
  rw [List.take_append_of_le_length (by simpa using hk), ← List.map_take, List.map_map, List.map_map]
  refine (congrArg List.sum (List.map_congr_left (g := fun _ => 1) fun y _ => rfl)).trans ?_
  simp [hk]

theorem row_of (L : List (FVec Ideal S1x128 .f32)) (z : FVec Ideal S6x128 .f32)
    (h : Shape.Concatenates ((rowList L z).map (·.1)) S48x128 0)
    (k : ℕ) (hk : k < L.length) (p : Fin 48) (hp : p.val = k) (l : Fin 128) :
    concatenate S48x128 0 (rowList L z) h (ix2 p l) = L[k] (ix2 0 l) := by
  refine concatenate_apply_piece 0 (rowList L z) h (ix2 p l) k ?_ S1x128 L[k] ?_ rfl k (rowList_before L z k hk.le) (ix2 0 l) ?_ ?_
  · unfold rowList; simp; omega
  · unfold rowList; rw [List.getElem_append_left (by simpa using hk), List.getElem_map]
  · intro b hb; fin_cases b
    · exact absurd rfl hb
    · rfl
  · exact hp.symm

theorem pad_of (L : List (FVec Ideal S1x128 .f32)) (z : FVec Ideal S6x128 .f32)
    (h : Shape.Concatenates ((rowList L z).map (·.1)) S48x128 0)
    (p : Fin 48) (i : Fin 6) (hp : L.length + i.val = p.val) (l : Fin 128) :
    concatenate S48x128 0 (rowList L z) h (ix2 p l) = z (ix2 i l) := by
  refine concatenate_apply_piece 0 (rowList L z) h (ix2 p l) L.length ?_ S6x128 z ?_ rfl L.length (rowList_before L z _ le_rfl) (ix2 i l) ?_ hp
  · unfold rowList; simp
  · unfold rowList; rw [List.getElem_append_right (by simp)]; simp
  · intro b hb; fin_cases b
    · exact absurd rfl hb
    · rfl

section Rows

variable (y0 y1 y2 y3 y4 y5 y6 y7 y8 y9 y10 y11 y12 y13 y14 y15 y16 y17 y18 y19 y20 y21 y22 y23 y24 y25 y26 y27 y28 y29 y30 y31 y32 y33 y34 y35 y36 y37 y38 y39 y40 : FVec Ideal S1x128 .f32) (d : FVec Ideal S256x128 .f32) (l : Fin 128)

theorem pay3_rows : k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d
    = concatenate S48x128 0 (rowList [y0, y1, y2, y3, y4, y5, y6, y7, y8, y9, y10, y11, y12, y13, y14, y15, y16, y17, y18, y19, y20, y21, y22, y23, y24, y25, y26, y27, y28, y29, y30, y31, y32, y33, y34, y35, y36, y37, y38, y39, y40, mn256 d] (broadcast S6x128 (Scalar.ofBits .f32 0x7F800000#32)))
      (by unfold rowList; exact concatenates_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S1x128_S6x128_S48x128_d0) := rfl

theorem row0 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 0 l) = y0 (ix2 0 l) := by
  rw [pay3_rows]
  exact row_of _ _ _ 0 (by show 0 < 42; decide) 0 rfl l

theorem row1 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 1 l) = y1 (ix2 0 l) := by
  rw [pay3_rows]
  exact row_of _ _ _ 1 (by show 1 < 42; decide) 1 rfl l

theorem row2 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 2 l) = y2 (ix2 0 l) := by
  rw [pay3_rows]
  exact row_of _ _ _ 2 (by show 2 < 42; decide) 2 rfl l

theorem row3 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 3 l) = y3 (ix2 0 l) := by
  rw [pay3_rows]
  exact row_of _ _ _ 3 (by show 3 < 42; decide) 3 rfl l

theorem row4 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 4 l) = y4 (ix2 0 l) := by
  rw [pay3_rows]
  exact row_of _ _ _ 4 (by show 4 < 42; decide) 4 rfl l

theorem row5 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 5 l) = y5 (ix2 0 l) := by
  rw [pay3_rows]
  exact row_of _ _ _ 5 (by show 5 < 42; decide) 5 rfl l

theorem row6 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 6 l) = y6 (ix2 0 l) := by
  rw [pay3_rows]
  exact row_of _ _ _ 6 (by show 6 < 42; decide) 6 rfl l

theorem row7 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 7 l) = y7 (ix2 0 l) := by
  rw [pay3_rows]
  exact row_of _ _ _ 7 (by show 7 < 42; decide) 7 rfl l

theorem row8 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 8 l) = y8 (ix2 0 l) := by
  rw [pay3_rows]
  exact row_of _ _ _ 8 (by show 8 < 42; decide) 8 rfl l

theorem row9 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 9 l) = y9 (ix2 0 l) := by
  rw [pay3_rows]
  exact row_of _ _ _ 9 (by show 9 < 42; decide) 9 rfl l

theorem row10 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 10 l) = y10 (ix2 0 l) := by
  rw [pay3_rows]
  exact row_of _ _ _ 10 (by show 10 < 42; decide) 10 rfl l

theorem row11 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 11 l) = y11 (ix2 0 l) := by
  rw [pay3_rows]
  exact row_of _ _ _ 11 (by show 11 < 42; decide) 11 rfl l

theorem row12 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 12 l) = y12 (ix2 0 l) := by
  rw [pay3_rows]
  exact row_of _ _ _ 12 (by show 12 < 42; decide) 12 rfl l

theorem row13 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 13 l) = y13 (ix2 0 l) := by
  rw [pay3_rows]
  exact row_of _ _ _ 13 (by show 13 < 42; decide) 13 rfl l

theorem row14 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 14 l) = y14 (ix2 0 l) := by
  rw [pay3_rows]
  exact row_of _ _ _ 14 (by show 14 < 42; decide) 14 rfl l

theorem row15 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 15 l) = y15 (ix2 0 l) := by
  rw [pay3_rows]
  exact row_of _ _ _ 15 (by show 15 < 42; decide) 15 rfl l

theorem row16 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 16 l) = y16 (ix2 0 l) := by
  rw [pay3_rows]
  exact row_of _ _ _ 16 (by show 16 < 42; decide) 16 rfl l

theorem row17 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 17 l) = y17 (ix2 0 l) := by
  rw [pay3_rows]
  exact row_of _ _ _ 17 (by show 17 < 42; decide) 17 rfl l

theorem row18 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 18 l) = y18 (ix2 0 l) := by
  rw [pay3_rows]
  exact row_of _ _ _ 18 (by show 18 < 42; decide) 18 rfl l

theorem row19 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 19 l) = y19 (ix2 0 l) := by
  rw [pay3_rows]
  exact row_of _ _ _ 19 (by show 19 < 42; decide) 19 rfl l

theorem row20 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 20 l) = y20 (ix2 0 l) := by
  rw [pay3_rows]
  exact row_of _ _ _ 20 (by show 20 < 42; decide) 20 rfl l

theorem row21 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 21 l) = y21 (ix2 0 l) := by
  rw [pay3_rows]
  exact row_of _ _ _ 21 (by show 21 < 42; decide) 21 rfl l

theorem row22 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 22 l) = y22 (ix2 0 l) := by
  rw [pay3_rows]
  exact row_of _ _ _ 22 (by show 22 < 42; decide) 22 rfl l

theorem row23 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 23 l) = y23 (ix2 0 l) := by
  rw [pay3_rows]
  exact row_of _ _ _ 23 (by show 23 < 42; decide) 23 rfl l

theorem row24 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 24 l) = y24 (ix2 0 l) := by
  rw [pay3_rows]
  exact row_of _ _ _ 24 (by show 24 < 42; decide) 24 rfl l

theorem row25 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 25 l) = y25 (ix2 0 l) := by
  rw [pay3_rows]
  exact row_of _ _ _ 25 (by show 25 < 42; decide) 25 rfl l

theorem row26 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 26 l) = y26 (ix2 0 l) := by
  rw [pay3_rows]
  exact row_of _ _ _ 26 (by show 26 < 42; decide) 26 rfl l

theorem row27 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 27 l) = y27 (ix2 0 l) := by
  rw [pay3_rows]
  exact row_of _ _ _ 27 (by show 27 < 42; decide) 27 rfl l

theorem row28 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 28 l) = y28 (ix2 0 l) := by
  rw [pay3_rows]
  exact row_of _ _ _ 28 (by show 28 < 42; decide) 28 rfl l

theorem row29 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 29 l) = y29 (ix2 0 l) := by
  rw [pay3_rows]
  exact row_of _ _ _ 29 (by show 29 < 42; decide) 29 rfl l

theorem row30 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 30 l) = y30 (ix2 0 l) := by
  rw [pay3_rows]
  exact row_of _ _ _ 30 (by show 30 < 42; decide) 30 rfl l

theorem row31 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 31 l) = y31 (ix2 0 l) := by
  rw [pay3_rows]
  exact row_of _ _ _ 31 (by show 31 < 42; decide) 31 rfl l

theorem row32 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 32 l) = y32 (ix2 0 l) := by
  rw [pay3_rows]
  exact row_of _ _ _ 32 (by show 32 < 42; decide) 32 rfl l

theorem row33 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 33 l) = y33 (ix2 0 l) := by
  rw [pay3_rows]
  exact row_of _ _ _ 33 (by show 33 < 42; decide) 33 rfl l

theorem row34 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 34 l) = y34 (ix2 0 l) := by
  rw [pay3_rows]
  exact row_of _ _ _ 34 (by show 34 < 42; decide) 34 rfl l

theorem row35 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 35 l) = y35 (ix2 0 l) := by
  rw [pay3_rows]
  exact row_of _ _ _ 35 (by show 35 < 42; decide) 35 rfl l

theorem row36 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 36 l) = y36 (ix2 0 l) := by
  rw [pay3_rows]
  exact row_of _ _ _ 36 (by show 36 < 42; decide) 36 rfl l

theorem row37 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 37 l) = y37 (ix2 0 l) := by
  rw [pay3_rows]
  exact row_of _ _ _ 37 (by show 37 < 42; decide) 37 rfl l

theorem row38 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 38 l) = y38 (ix2 0 l) := by
  rw [pay3_rows]
  exact row_of _ _ _ 38 (by show 38 < 42; decide) 38 rfl l

theorem row39 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 39 l) = y39 (ix2 0 l) := by
  rw [pay3_rows]
  exact row_of _ _ _ 39 (by show 39 < 42; decide) 39 rfl l

theorem row40 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 40 l) = y40 (ix2 0 l) := by
  rw [pay3_rows]
  exact row_of _ _ _ 40 (by show 40 < 42; decide) 40 rfl l

theorem row41 :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 41 l) = mn256 d (ix2 0 l) := by
  rw [pay3_rows]
  exact row_of _ _ _ 41 (by show 41 < 42; decide) 41 rfl l

theorem rowPad (p : Fin 6) (q : Fin 48) (hq : 42 + p.val = q.val) :
    k0_pay3 y0 y1 y2 y3 y4 y5 y6 y7 y8 y9 y10 y11 y12 y13 y14 y15 y16 y17 y18 y19 y20 y21 y22 y23 y24 y25 y26 y27 y28 y29 y30 y31 y32 y33 y34 y35 y36 y37 y38 y39 y40 d (ix2 q l) = ⊤ := by
  rw [pay3_rows]
  refine (pad_of _ _ _ q p ?_ l).trans ofBits_top
  exact hq

end Rows

end Cert.KernelIdeal.Gen
-- ==== Proof.Select.lean ====
module

public import proofs.«01_k».proof.Proof.SelectNet
public import proofs.«01_k».proof.Proof.SelectRows

/-!
The block the selection kernel stores, lane by lane, is `Cert.Hardest.step` of the pool before and the
block's margins.
-/

set_option maxRecDepth 65536

@[expose] public section

noncomputable section

namespace Cert.KernelIdeal.Gen

open Idealize.ShloMosaic Idealize.SL.Sem
open Cert.Hardest

/-- What the kernel stores, from the two input blocks and the pool before. -/
def stored (x t : FVec Ideal S2048x128 .f32) (o : FVec Ideal S48x128 .f32) : FVec Ideal S48x128 .f32 :=
  k0_pay3 (k0_pay53 (F := Ideal) (k0_pay34 (F := Ideal) x t) o)
    (k0_pay55 (F := Ideal) (k0_pay34 (F := Ideal) x t) o)
    (k0_pay57 (F := Ideal) (k0_pay34 (F := Ideal) x t) o)
    (k0_pay59 (F := Ideal) (k0_pay34 (F := Ideal) x t) o)
    (k0_pay61 (F := Ideal) (k0_pay34 (F := Ideal) x t) o)
    (k0_pay63 (F := Ideal) (k0_pay34 (F := Ideal) x t) o)
    (k0_pay67 (F := Ideal) (k0_pay62 (F := Ideal) (k0_pay34 (F := Ideal) x t) o) (k0_pay64 (F := Ideal) (k0_pay34 (F := Ideal) x t) o) (k0_pay65 (F := Ideal)))
    (k0_pay69 (F := Ideal) (k0_pay62 (F := Ideal) (k0_pay34 (F := Ideal) x t) o) (k0_pay64 (F := Ideal) (k0_pay34 (F := Ideal) x t) o) (k0_pay65 (F := Ideal)))
    (k0_pay71 (F := Ideal) (k0_pay62 (F := Ideal) (k0_pay34 (F := Ideal) x t) o) (k0_pay64 (F := Ideal) (k0_pay34 (F := Ideal) x t) o) (k0_pay65 (F := Ideal)))
    (k0_pay73 (F := Ideal) (k0_pay62 (F := Ideal) (k0_pay34 (F := Ideal) x t) o) (k0_pay64 (F := Ideal) (k0_pay34 (F := Ideal) x t) o) (k0_pay65 (F := Ideal)))
    (k0_pay75 (F := Ideal) (k0_pay62 (F := Ideal) (k0_pay34 (F := Ideal) x t) o) (k0_pay64 (F := Ideal) (k0_pay34 (F := Ideal) x t) o) (k0_pay65 (F := Ideal)))
    (k0_pay77 (F := Ideal) (k0_pay62 (F := Ideal) (k0_pay34 (F := Ideal) x t) o) (k0_pay64 (F := Ideal) (k0_pay34 (F := Ideal) x t) o) (k0_pay65 (F := Ideal)))
    (k0_pay79 (F := Ideal) (k0_pay62 (F := Ideal) (k0_pay34 (F := Ideal) x t) o) (k0_pay64 (F := Ideal) (k0_pay34 (F := Ideal) x t) o) (k0_pay65 (F := Ideal)))
    (k0_pay81 (F := Ideal) (k0_pay62 (F := Ideal) (k0_pay34 (F := Ideal) x t) o) (k0_pay64 (F := Ideal) (k0_pay34 (F := Ideal) x t) o) (k0_pay65 (F := Ideal)))
    (k0_pay83 (F := Ideal) (k0_pay80 (F := Ideal) (k0_pay62 (F := Ideal) (k0_pay34 (F := Ideal) x t) o) (k0_pay64 (F := Ideal) (k0_pay34 (F := Ideal) x t) o) (k0_pay65 (F := Ideal))) (k0_pay81 (F := Ideal) (k0_pay62 (F := Ideal) (k0_pay34 (F := Ideal) x t) o) (k0_pay64 (F := Ideal) (k0_pay34 (F := Ideal) x t) o) (k0_pay65 (F := Ideal))))
    (k0_pay84 (F := Ideal) (k0_pay80 (F := Ideal) (k0_pay62 (F := Ideal) (k0_pay34 (F := Ideal) x t) o) (k0_pay64 (F := Ideal) (k0_pay34 (F := Ideal) x t) o) (k0_pay65 (F := Ideal))) (k0_pay81 (F := Ideal) (k0_pay62 (F := Ideal) (k0_pay34 (F := Ideal) x t) o) (k0_pay64 (F := Ideal) (k0_pay34 (F := Ideal) x t) o) (k0_pay65 (F := Ideal))))
    (k0_pay85 (F := Ideal) (k0_pay46 (F := Ideal) (k0_pay36 (F := Ideal) x t) (k0_pay42 (F := Ideal) x t)))
    (k0_pay87 (F := Ideal) (k0_pay46 (F := Ideal) (k0_pay36 (F := Ideal) x t) (k0_pay42 (F := Ideal) x t)))
    (k0_pay89 (F := Ideal) (k0_pay46 (F := Ideal) (k0_pay36 (F := Ideal) x t) (k0_pay42 (F := Ideal) x t)))
    (k0_pay91 (F := Ideal) (k0_pay46 (F := Ideal) (k0_pay36 (F := Ideal) x t) (k0_pay42 (F := Ideal) x t)))
    (k0_pay93 (F := Ideal) (k0_pay46 (F := Ideal) (k0_pay36 (F := Ideal) x t) (k0_pay42 (F := Ideal) x t)))
    (k0_pay95 (F := Ideal) (k0_pay46 (F := Ideal) (k0_pay36 (F := Ideal) x t) (k0_pay42 (F := Ideal) x t)))
    (k0_pay98 (F := Ideal) (k0_pay94 (F := Ideal) (k0_pay46 (F := Ideal) (k0_pay36 (F := Ideal) x t) (k0_pay42 (F := Ideal) x t))) (k0_pay96 (F := Ideal) (k0_pay46 (F := Ideal) (k0_pay36 (F := Ideal) x t) (k0_pay42 (F := Ideal) x t))))
    (k0_pay99 (F := Ideal) (k0_pay94 (F := Ideal) (k0_pay46 (F := Ideal) (k0_pay36 (F := Ideal) x t) (k0_pay42 (F := Ideal) x t))) (k0_pay96 (F := Ideal) (k0_pay46 (F := Ideal) (k0_pay36 (F := Ideal) x t) (k0_pay42 (F := Ideal) x t))))
    (k0_pay100 (F := Ideal) (k0_pay47 (F := Ideal) (k0_pay36 (F := Ideal) x t) (k0_pay42 (F := Ideal) x t)))
    (k0_pay102 (F := Ideal) (k0_pay47 (F := Ideal) (k0_pay36 (F := Ideal) x t) (k0_pay42 (F := Ideal) x t)))
    (k0_pay104 (F := Ideal) (k0_pay47 (F := Ideal) (k0_pay36 (F := Ideal) x t) (k0_pay42 (F := Ideal) x t)))
    (k0_pay106 (F := Ideal) (k0_pay47 (F := Ideal) (k0_pay36 (F := Ideal) x t) (k0_pay42 (F := Ideal) x t)))
    (k0_pay107 (F := Ideal) (k0_pay47 (F := Ideal) (k0_pay36 (F := Ideal) x t) (k0_pay42 (F := Ideal) x t)))
    (k0_pay108 (F := Ideal) (k0_pay48 (F := Ideal) (k0_pay37 (F := Ideal) x t) (k0_pay40 (F := Ideal) x t) (k0_pay43 (F := Ideal) x t)))
    (k0_pay111 (F := Ideal) (k0_pay110 (F := Ideal) (k0_pay48 (F := Ideal) (k0_pay37 (F := Ideal) x t) (k0_pay40 (F := Ideal) x t) (k0_pay43 (F := Ideal) x t))))
    (k0_pay113 (F := Ideal) (k0_pay109 (F := Ideal) (k0_pay48 (F := Ideal) (k0_pay37 (F := Ideal) x t) (k0_pay40 (F := Ideal) x t) (k0_pay43 (F := Ideal) x t))) (k0_pay110 (F := Ideal) (k0_pay48 (F := Ideal) (k0_pay37 (F := Ideal) x t) (k0_pay40 (F := Ideal) x t) (k0_pay43 (F := Ideal) x t))))
    (k0_pay114 (F := Ideal) (k0_pay109 (F := Ideal) (k0_pay48 (F := Ideal) (k0_pay37 (F := Ideal) x t) (k0_pay40 (F := Ideal) x t) (k0_pay43 (F := Ideal) x t))) (k0_pay110 (F := Ideal) (k0_pay48 (F := Ideal) (k0_pay37 (F := Ideal) x t) (k0_pay40 (F := Ideal) x t) (k0_pay43 (F := Ideal) x t))))
    (k0_pay115 (F := Ideal) (k0_pay49 (F := Ideal) (k0_pay37 (F := Ideal) x t) (k0_pay40 (F := Ideal) x t) (k0_pay43 (F := Ideal) x t)))
    (k0_pay117 (F := Ideal) (k0_pay49 (F := Ideal) (k0_pay37 (F := Ideal) x t) (k0_pay40 (F := Ideal) x t) (k0_pay43 (F := Ideal) x t)))
    (k0_pay118 (F := Ideal) (k0_pay49 (F := Ideal) (k0_pay37 (F := Ideal) x t) (k0_pay40 (F := Ideal) x t) (k0_pay43 (F := Ideal) x t)))
    (k0_pay119 (F := Ideal) (k0_pay50 (F := Ideal) (k0_pay37 (F := Ideal) x t) (k0_pay39 (F := Ideal) x t) (k0_pay40 (F := Ideal) x t)))
    (k0_pay120 (F := Ideal) (k0_pay50 (F := Ideal) (k0_pay37 (F := Ideal) x t) (k0_pay39 (F := Ideal) x t) (k0_pay40 (F := Ideal) x t)))
    (k0_pay121 (F := Ideal) (k0_pay51 (F := Ideal) (k0_pay37 (F := Ideal) x t) (k0_pay39 (F := Ideal) x t) (k0_pay40 (F := Ideal) x t)))
    (k0_pay122 (F := Ideal) (k0_pay51 (F := Ideal) (k0_pay37 (F := Ideal) x t) (k0_pay39 (F := Ideal) x t) (k0_pay40 (F := Ideal) x t)))
    (shapeCast S1x128 (k0_pay123 (F := Ideal) (k0_pay41 (F := Ideal) x t)) shapeCasts_S128_S1x128)
    (k0_pay2 (F := Ideal) (k0_pay41 (F := Ideal) x t) (k0_pay1 (F := Ideal) (k0_pay41 (F := Ideal) x t) (shapeCast S1x128 (k0_pay123 (F := Ideal) (k0_pay41 (F := Ideal) x t)) shapeCasts_S128_S1x128)))

theorem stored_apply (x t : FVec Ideal S2048x128 .f32) (o : FVec Ideal S48x128 .f32) (l : Fin 128) (p : Fin 48) :
    stored x t o (ix2 p l) = step (col o l) (col (k0_pay5 (F := Ideal) x t) l) p := by
  unfold stored
  unfold step
  rw [← net0, ← col_first]
  fin_cases p
  · exact ((row0 _ _ _ _ _ _ _ _ _ _ _ _ _ _ _ _ _ _ _ _ _ _ _ _ _ _ _ _ _ _ _ _ _ _ _ _ _ _ _ _ _ _ l).trans (kept0 (k0_pay34 (F := Ideal) x t) o l))
  · exact ((row1 _ _ _ _ _ _ _ _ _ _ _ _ _ _ _ _ _ _ _ _ _ _ _ _ _ _ _ _ _ _ _ _ _ _ _ _ _ _ _ _ _ _ l).trans (kept1 (k0_pay34 (F := Ideal) x t) o l))
  · exact ((row2 _ _ _ _ _ _ _ _ _ _ _ _ _ _ _ _ _ _ _ _ _ _ _ _ _ _ _ _ _ _ _ _ _ _ _ _ _ _ _ _ _ _ l).trans (kept2 (k0_pay34 (F := Ideal) x t) o l))
  · exact ((row3 _ _ _ _ _ _ _ _ _ _ _ _ _ _ _ _ _ _ _ _ _ _ _ _ _ _ _ _ _ _ _ _ _ _ _ _ _ _ _ _ _ _ l).trans (kept3 (k0_pay34 (F := Ideal) x t) o l))
  · exact ((row4 _ _ _ _ _ _ _ _ _ _ _ _ _ _ _ _ _ _ _ _ _ _ _ _ _ _ _ _ _ _ _ _ _ _ _ _ _ _ _ _ _ _ l).trans (kept4 (k0_pay34 (F := Ideal) x t) o l))
  · exact ((row5 _ _ _ _ _ _ _ _ _ _ _ _ _ _ _ _ _ _ _ _ _ _ _ _ _ _ _ _ _ _ _ _ _ _ _ _ _ _ _ _ _ _ l).trans (kept5 (k0_pay34 (F := Ideal) x t) o l))
  · exact ((row6 _ _ _ _ _ _ _ _ _ _ _ _ _ _ _ _ _ _ _ _ _ _ _ _ _ _ _ _ _ _ _ _ _ _ _ _ _ _ _ _ _ _ l).trans (kept6 (k0_pay34 (F := Ideal) x t) o l))
  · exact ((row7 _ _ _ _ _ _ _ _ _ _ _ _ _ _ _ _ _ _ _ _ _ _ _ _ _ _ _ _ _ _ _ _ _ _ _ _ _ _ _ _ _ _ l).trans (kept7 (k0_pay34 (F := Ideal) x t) o l))
  · exact ((row8 _ _ _ _ _ _ _ _ _ _ _ _ _ _ _ _ _ _ _ _ _ _ _ _ _ _ _ _ _ _ _ _ _ _ _ _ _ _ _ _ _ _ l).trans (kept8 (k0_pay34 (F := Ideal) x t) o l))
  · exact ((row9 _ _ _ _ _ _ _ _ _ _ _ _ _ _ _ _ _ _ _ _ _ _ _ _ _ _ _ _ _ _ _ _ _ _ _ _ _ _ _ _ _ _ l).trans (kept9 (k0_pay34 (F := Ideal) x t) o l))
  · exact ((row10 _ _ _ _ _ _ _ _ _ _ _ _ _ _ _ _ _ _ _ _ _ _ _ _ _ _ _ _ _ _ _ _ _ _ _ _ _ _ _ _ _ _ l).trans (kept10 (k0_pay34 (F := Ideal) x t) o l))
  · exact ((row11 _ _ _ _ _ _ _ _ _ _ _ _ _ _ _ _ _ _ _ _ _ _ _ _ _ _ _ _ _ _ _ _ _ _ _ _ _ _ _ _ _ _ l).trans (kept11 (k0_pay34 (F := Ideal) x t) o l))
  · exact ((row12 _ _ _ _ _ _ _ _ _ _ _ _ _ _ _ _ _ _ _ _ _ _ _ _ _ _ _ _ _ _ _ _ _ _ _ _ _ _ _ _ _ _ l).trans (kept12 (k0_pay34 (F := Ideal) x t) o l))
  · exact ((row13 _ _ _ _ _ _ _ _ _ _ _ _ _ _ _ _ _ _ _ _ _ _ _ _ _ _ _ _ _ _ _ _ _ _ _ _ _ _ _ _ _ _ l).trans (kept13 (k0_pay34 (F := Ideal) x t) o l))
  · exact ((row14 _ _ _ _ _ _ _ _ _ _ _ _ _ _ _ _ _ _ _ _ _ _ _ _ _ _ _ _ _ _ _ _ _ _ _ _ _ _ _ _ _ _ l).trans (kept14 (k0_pay34 (F := Ideal) x t) o l))
  · exact ((row15 _ _ _ _ _ _ _ _ _ _ _ _ _ _ _ _ _ _ _ _ _ _ _ _ _ _ _ _ _ _ _ _ _ _ _ _ _ _ _ _ _ _ l).trans (kept15 (k0_pay34 (F := Ideal) x t) o l))
  · exact ((row16 _ _ _ _ _ _ _ _ _ _ _ _ _ _ _ _ _ _ _ _ _ _ _ _ _ _ _ _ _ _ _ _ _ _ _ _ _ _ _ _ _ _ l).trans (kept16 (k0_pay46 (F := Ideal) (k0_pay36 (F := Ideal) x t) (k0_pay42 (F := Ideal) x t)) l)).trans (congrArg (fun z => ex z 0) (net1 x t l))
  · exact ((row17 _ _ _ _ _ _ _ _ _ _ _ _ _ _ _ _ _ _ _ _ _ _ _ _ _ _ _ _ _ _ _ _ _ _ _ _ _ _ _ _ _ _ l).trans (kept17 (k0_pay46 (F := Ideal) (k0_pay36 (F := Ideal) x t) (k0_pay42 (F := Ideal) x t)) l)).trans (congrArg (fun z => ex z 1) (net1 x t l))
  · exact ((row18 _ _ _ _ _ _ _ _ _ _ _ _ _ _ _ _ _ _ _ _ _ _ _ _ _ _ _ _ _ _ _ _ _ _ _ _ _ _ _ _ _ _ l).trans (kept18 (k0_pay46 (F := Ideal) (k0_pay36 (F := Ideal) x t) (k0_pay42 (F := Ideal) x t)) l)).trans (congrArg (fun z => ex z 2) (net1 x t l))
  · exact ((row19 _ _ _ _ _ _ _ _ _ _ _ _ _ _ _ _ _ _ _ _ _ _ _ _ _ _ _ _ _ _ _ _ _ _ _ _ _ _ _ _ _ _ l).trans (kept19 (k0_pay46 (F := Ideal) (k0_pay36 (F := Ideal) x t) (k0_pay42 (F := Ideal) x t)) l)).trans (congrArg (fun z => ex z 3) (net1 x t l))
  · exact ((row20 _ _ _ _ _ _ _ _ _ _ _ _ _ _ _ _ _ _ _ _ _ _ _ _ _ _ _ _ _ _ _ _ _ _ _ _ _ _ _ _ _ _ l).trans (kept20 (k0_pay46 (F := Ideal) (k0_pay36 (F := Ideal) x t) (k0_pay42 (F := Ideal) x t)) l)).trans (congrArg (fun z => ex z 4) (net1 x t l))
  · exact ((row21 _ _ _ _ _ _ _ _ _ _ _ _ _ _ _ _ _ _ _ _ _ _ _ _ _ _ _ _ _ _ _ _ _ _ _ _ _ _ _ _ _ _ l).trans (kept21 (k0_pay46 (F := Ideal) (k0_pay36 (F := Ideal) x t) (k0_pay42 (F := Ideal) x t)) l)).trans (congrArg (fun z => ex z 5) (net1 x t l))
  · exact ((row22 _ _ _ _ _ _ _ _ _ _ _ _ _ _ _ _ _ _ _ _ _ _ _ _ _ _ _ _ _ _ _ _ _ _ _ _ _ _ _ _ _ _ l).trans (kept22 (k0_pay46 (F := Ideal) (k0_pay36 (F := Ideal) x t) (k0_pay42 (F := Ideal) x t)) l)).trans (congrArg (fun z => ex z 6) (net1 x t l))
  · exact ((row23 _ _ _ _ _ _ _ _ _ _ _ _ _ _ _ _ _ _ _ _ _ _ _ _ _ _ _ _ _ _ _ _ _ _ _ _ _ _ _ _ _ _ l).trans (kept23 (k0_pay46 (F := Ideal) (k0_pay36 (F := Ideal) x t) (k0_pay42 (F := Ideal) x t)) l)).trans (congrArg (fun z => ex z 7) (net1 x t l))
  · exact ((row24 _ _ _ _ _ _ _ _ _ _ _ _ _ _ _ _ _ _ _ _ _ _ _ _ _ _ _ _ _ _ _ _ _ _ _ _ _ _ _ _ _ _ l).trans (kept24 (k0_pay47 (F := Ideal) (k0_pay36 (F := Ideal) x t) (k0_pay42 (F := Ideal) x t)) l)).trans (congrArg (fun z => ex z 0) (net2 x t l))
  · exact ((row25 _ _ _ _ _ _ _ _ _ _ _ _ _ _ _ _ _ _ _ _ _ _ _ _ _ _ _ _ _ _ _ _ _ _ _ _ _ _ _ _ _ _ l).trans (kept25 (k0_pay47 (F := Ideal) (k0_pay36 (F := Ideal) x t) (k0_pay42 (F := Ideal) x t)) l)).trans (congrArg (fun z => ex z 1) (net2 x t l))
  · exact ((row26 _ _ _ _ _ _ _ _ _ _ _ _ _ _ _ _ _ _ _ _ _ _ _ _ _ _ _ _ _ _ _ _ _ _ _ _ _ _ _ _ _ _ l).trans (kept26 (k0_pay47 (F := Ideal) (k0_pay36 (F := Ideal) x t) (k0_pay42 (F := Ideal) x t)) l)).trans (congrArg (fun z => ex z 2) (net2 x t l))
  · exact ((row27 _ _ _ _ _ _ _ _ _ _ _ _ _ _ _ _ _ _ _ _ _ _ _ _ _ _ _ _ _ _ _ _ _ _ _ _ _ _ _ _ _ _ l).trans (kept27 (k0_pay47 (F := Ideal) (k0_pay36 (F := Ideal) x t) (k0_pay42 (F := Ideal) x t)) l)).trans (congrArg (fun z => ex z 3) (net2 x t l))
  · exact ((row28 _ _ _ _ _ _ _ _ _ _ _ _ _ _ _ _ _ _ _ _ _ _ _ _ _ _ _ _ _ _ _ _ _ _ _ _ _ _ _ _ _ _ l).trans (kept28 (k0_pay47 (F := Ideal) (k0_pay36 (F := Ideal) x t) (k0_pay42 (F := Ideal) x t)) l)).trans (congrArg (fun z => ex z 4) (net2 x t l))
  · exact ((row29 _ _ _ _ _ _ _ _ _ _ _ _ _ _ _ _ _ _ _ _ _ _ _ _ _ _ _ _ _ _ _ _ _ _ _ _ _ _ _ _ _ _ l).trans (kept29 (k0_pay48 (F := Ideal) (k0_pay37 (F := Ideal) x t) (k0_pay40 (F := Ideal) x t) (k0_pay43 (F := Ideal) x t)) l)).trans (congrArg (fun z => ex z 0) (net3 x t l))
  · exact ((row30 _ _ _ _ _ _ _ _ _ _ _ _ _ _ _ _ _ _ _ _ _ _ _ _ _ _ _ _ _ _ _ _ _ _ _ _ _ _ _ _ _ _ l).trans (kept30 (k0_pay48 (F := Ideal) (k0_pay37 (F := Ideal) x t) (k0_pay40 (F := Ideal) x t) (k0_pay43 (F := Ideal) x t)) l)).trans (congrArg (fun z => ex z 1) (net3 x t l))
  · exact ((row31 _ _ _ _ _ _ _ _ _ _ _ _ _ _ _ _ _ _ _ _ _ _ _ _ _ _ _ _ _ _ _ _ _ _ _ _ _ _ _ _ _ _ l).trans (kept31 (k0_pay48 (F := Ideal) (k0_pay37 (F := Ideal) x t) (k0_pay40 (F := Ideal) x t) (k0_pay43 (F := Ideal) x t)) l)).trans (congrArg (fun z => ex z 2) (net3 x t l))
  · exact ((row32 _ _ _ _ _ _ _ _ _ _ _ _ _ _ _ _ _ _ _ _ _ _ _ _ _ _ _ _ _ _ _ _ _ _ _ _ _ _ _ _ _ _ l).trans (kept32 (k0_pay48 (F := Ideal) (k0_pay37 (F := Ideal) x t) (k0_pay40 (F := Ideal) x t) (k0_pay43 (F := Ideal) x t)) l)).trans (congrArg (fun z => ex z 3) (net3 x t l))
  · exact ((row33 _ _ _ _ _ _ _ _ _ _ _ _ _ _ _ _ _ _ _ _ _ _ _ _ _ _ _ _ _ _ _ _ _ _ _ _ _ _ _ _ _ _ l).trans (kept33 (k0_pay49 (F := Ideal) (k0_pay37 (F := Ideal) x t) (k0_pay40 (F := Ideal) x t) (k0_pay43 (F := Ideal) x t)) l)).trans (congrArg (fun z => ex z 0) (net4 x t l))
  · exact ((row34 _ _ _ _ _ _ _ _ _ _ _ _ _ _ _ _ _ _ _ _ _ _ _ _ _ _ _ _ _ _ _ _ _ _ _ _ _ _ _ _ _ _ l).trans (kept34 (k0_pay49 (F := Ideal) (k0_pay37 (F := Ideal) x t) (k0_pay40 (F := Ideal) x t) (k0_pay43 (F := Ideal) x t)) l)).trans (congrArg (fun z => ex z 1) (net4 x t l))
  · exact ((row35 _ _ _ _ _ _ _ _ _ _ _ _ _ _ _ _ _ _ _ _ _ _ _ _ _ _ _ _ _ _ _ _ _ _ _ _ _ _ _ _ _ _ l).trans (kept35 (k0_pay49 (F := Ideal) (k0_pay37 (F := Ideal) x t) (k0_pay40 (F := Ideal) x t) (k0_pay43 (F := Ideal) x t)) l)).trans (congrArg (fun z => ex z 2) (net4 x t l))
  · exact ((row36 _ _ _ _ _ _ _ _ _ _ _ _ _ _ _ _ _ _ _ _ _ _ _ _ _ _ _ _ _ _ _ _ _ _ _ _ _ _ _ _ _ _ l).trans (kept36 (k0_pay50 (F := Ideal) (k0_pay37 (F := Ideal) x t) (k0_pay39 (F := Ideal) x t) (k0_pay40 (F := Ideal) x t)) l)).trans (congrArg (fun z => ex z 0) (net5 x t l))
  · exact ((row37 _ _ _ _ _ _ _ _ _ _ _ _ _ _ _ _ _ _ _ _ _ _ _ _ _ _ _ _ _ _ _ _ _ _ _ _ _ _ _ _ _ _ l).trans (kept37 (k0_pay50 (F := Ideal) (k0_pay37 (F := Ideal) x t) (k0_pay39 (F := Ideal) x t) (k0_pay40 (F := Ideal) x t)) l)).trans (congrArg (fun z => ex z 1) (net5 x t l))
  · exact ((row38 _ _ _ _ _ _ _ _ _ _ _ _ _ _ _ _ _ _ _ _ _ _ _ _ _ _ _ _ _ _ _ _ _ _ _ _ _ _ _ _ _ _ l).trans (kept38 (k0_pay51 (F := Ideal) (k0_pay37 (F := Ideal) x t) (k0_pay39 (F := Ideal) x t) (k0_pay40 (F := Ideal) x t)) l)).trans (congrArg (fun z => ex z 0) (net6 x t l))
  · exact ((row39 _ _ _ _ _ _ _ _ _ _ _ _ _ _ _ _ _ _ _ _ _ _ _ _ _ _ _ _ _ _ _ _ _ _ _ _ _ _ _ _ _ _ l).trans (kept39 (k0_pay51 (F := Ideal) (k0_pay37 (F := Ideal) x t) (k0_pay39 (F := Ideal) x t) (k0_pay40 (F := Ideal) x t)) l)).trans (congrArg (fun z => ex z 1) (net6 x t l))
  · exact ((row40 _ _ _ _ _ _ _ _ _ _ _ _ _ _ _ _ _ _ _ _ _ _ _ _ _ _ _ _ _ _ _ _ _ _ _ _ _ _ _ _ _ _ l).trans (kept40 (k0_pay41 (F := Ideal) x t) l)).trans (congrArg (fun z => ex z 0) (net7 x t l))
  · exact ((row41 _ _ _ _ _ _ _ _ _ _ _ _ _ _ _ _ _ _ _ _ _ _ _ _ _ _ _ _ _ _ _ _ _ _ _ _ _ _ _ _ _ _ l).trans (kept41 (k0_pay41 (F := Ideal) x t) l)).trans (congrArg (fun z => ex z 1) (net7 x t l))
  · exact rowPad _ _ _ _ _ _ _ _ _ _ _ _ _ _ _ _ _ _ _ _ _ _ _ _ _ _ _ _ _ _ _ _ _ _ _ _ _ _ _ _ _ _ l 0 _ rfl
  · exact rowPad _ _ _ _ _ _ _ _ _ _ _ _ _ _ _ _ _ _ _ _ _ _ _ _ _ _ _ _ _ _ _ _ _ _ _ _ _ _ _ _ _ _ l 1 _ rfl
  · exact rowPad _ _ _ _ _ _ _ _ _ _ _ _ _ _ _ _ _ _ _ _ _ _ _ _ _ _ _ _ _ _ _ _ _ _ _ _ _ _ _ _ _ _ l 2 _ rfl
  · exact rowPad _ _ _ _ _ _ _ _ _ _ _ _ _ _ _ _ _ _ _ _ _ _ _ _ _ _ _ _ _ _ _ _ _ _ _ _ _ _ _ _ _ _ l 3 _ rfl
  · exact rowPad _ _ _ _ _ _ _ _ _ _ _ _ _ _ _ _ _ _ _ _ _ _ _ _ _ _ _ _ _ _ _ _ _ _ _ _ _ _ _ _ _ _ l 4 _ rfl
  · exact rowPad _ _ _ _ _ _ _ _ _ _ _ _ _ _ _ _ _ _ _ _ _ _ _ _ _ _ _ _ _ _ _ _ _ _ _ _ _ _ _ _ _ _ l 5 _ rfl

theorem col_stored (x t : FVec Ideal S2048x128 .f32) (o : FVec Ideal S48x128 .f32) (l : Fin 128) :
    col (stored x t o) l = step (col o l) (col (k0_pay5 (F := Ideal) x t) l) :=
  funext fun p => stored_apply x t o l p

end Cert.KernelIdeal.Gen
-- ==== Proof.SelectValue.lean ====
module

public import proofs.«01_k».proof.Proof.Select
public import proofs.«01_k».proof.Proof.Gen.KernelIdeal.Frame
public import Idealize.ShloMosaic.Lib.Pipeline.Value
public import Idealize.ShloMosaic.Lib.Tactic

/-!
What the selection call leaves in its result array: lane by lane, the pool after all 32 blocks of the
lane's margins.
-/

@[expose] public section

noncomputable section

open Idealize.ShloMosaic Idealize.ShloMosaic.TcCoe Idealize.SL.Sem
open Idealize.ShloMosaic.Pipeline (Dat)

namespace Cert.KernelIdeal.Gen

open Cert.Hardest

theorem zeros2 : (![0, 0] : Fin 2 → Nat) = fun _ => 0 := funext fun a => by fin_cases a <;> rfl

/-- A later point leaves the block computed from the two inputs and the pool before. -/
theorem select_later (c : Dev nD) (i : grid0.Coords) (a1 : Memref sig .tc .vmem S2048x128 .f32) (h1 : a1.IsWhole)
    (a2 : Memref sig .tc .vmem S2048x128 .f32) (h2 : a2.IsWhole) (a3 : Memref sig .tc .vmem S48x128 .f32) (h3 : a3.IsWhole)
    (hc : ¬cond0_0 i) (x t : Vec Ideal S2048x128 .f32) (xo : Vec Ideal S48x128 .f32) :
    out0_B_2 (F := Ideal) c i a1 h1 a2 h2 a3 h3 hc x t xo = stored x t xo := by
  unfold out0_B_2
  rw [View.read_writes_eq_canon _ _ _ (cover0_B_2 c i a1 h1 a2 h2 a3 h3 hc x t xo)]
  unfold kernelRun0_B
  dsimp only
  sl_unfold_words
  rw [View.canon_unit_zero zeros2]
  simp only [View.readAt_eq_ld, h1.read_unread, h2.read_unread, h3.read_unread, View.ld_unit_zero (S := S2048x128) zeros2,
    View.ld_unit_zero (S := S48x128) zeros2, shapeCast_self]
  rfl

/-- The first point does the same from a pool of `+∞`. -/
theorem select_first (c : Dev nD) (i : grid0.Coords) (a1 : Memref sig .tc .vmem S2048x128 .f32) (h1 : a1.IsWhole)
    (a2 : Memref sig .tc .vmem S2048x128 .f32) (h2 : a2.IsWhole) (a3 : Memref sig .tc .vmem S48x128 .f32) (h3 : a3.IsWhole)
    (hc : cond0_0 i) (x t : Vec Ideal S2048x128 .f32) :
    out0_A_2 (F := Ideal) c i a1 h1 a2 h2 a3 h3 hc x t = stored x t (k0_pay4 (F := Ideal)) := by
  unfold out0_A_2
  rw [View.read_writes_eq_canon _ _ _ (cover0_A_2 c i a1 h1 a2 h2 a3 h3 hc x t)]
  unfold kernelRun0_A
  dsimp only
  sl_unfold_words
  rw [View.canon_cons_unit_zero (S := S48x128) zeros2, View.readCov_unit_zero (S := S48x128) _ zeros2]
  simp only [View.readAt_eq_ld, h1.read_unread, h2.read_unread, View.ld_unit_zero (S := S2048x128) zeros2,
    View.ld_unit_zero (S := S48x128) zeros2, shapeCast_self]
  rfl

variable (V : (c : Dev nD) → (b : Ref sig .tc) → Buf (Elt Ideal) ((c : Thread nD τ).loc b))

/-- A lane's margins, block by block. -/
def laneBlocks (c : Dev nD) (l : Fin 128) (s : ℕ) : Fin 2048 → EReal :=
  if h : s < cfg0.N then col (k0_pay5 (F := Ideal) (iblk0 V c 0 ⟨s, h⟩) (iblk0 V c 1 ⟨s, h⟩)) l else fun _ => ⊤

theorem pool_after (c : Dev nD) (l : Fin 128) : ∀ (n : ℕ) (h : n < cfg0.N),
    col (n := 48) (outsAt0 V c n h) l = poolSeq (laneBlocks V c l) (n + 1)
  | 0, h => by
    refine (congrArg (fun z => col (n := 48) z l) ((outsAt0_A V c ⟨0, h⟩ rfl).trans
      (select_first c _ _ _ _ _ _ _ _ (iblk0 V c 0 ⟨0, h⟩) (iblk0 V c 1 ⟨0, h⟩)))).trans ((col_stored _ _ _ l).trans ?_)
    show _ = step (fun _ => ⊤) (laneBlocks V c l 0)
    rw [show col (n := 48) (k0_pay4 (F := Ideal)) l = fun _ => ⊤ from funext fun p => ofBits_top]
    unfold laneBlocks
    rw [dif_pos h]
  | n + 1, h => by
    have hN : cfg0.N = 32 := N_0
    have hB : ¬(⟨n + 1, h⟩ : Fin cfg0.N).val % 32 = 0 := by dsimp only; omega
    refine (congrArg (fun z => col (n := 48) z l) ((outsAt0_B V c ⟨n + 1, h⟩ hB).trans
      (select_later c _ _ _ _ _ _ _ _ (iblk0 V c 0 ⟨n + 1, h⟩) (iblk0 V c 1 ⟨n + 1, h⟩)
        (outsAt0 V c n (Nat.lt_of_succ_lt h))))).trans ((col_stored _ _ _ l).trans ?_)
    show _ = step (poolSeq (laneBlocks V c l) (n + 1)) (laneBlocks V c l (n + 1))
    rw [pool_after c l n]
    congr 1
    unfold laneBlocks
    rw [dif_pos h]

/-- The last point. -/
def lastPt : Fin cfg0.N := ⟨31, by rw [show cfg0.N = 32 from N_0]; decide⟩

abbrev pool (c : Dev nD) : Buf (Elt Ideal) ((c : Thread nD τ).loc main_v2) := outsAt0 V c 31 lastPt.isLt

theorem pool_written (c : Dev nD) (t : Fin cfg0.N) (hf : (cfg0.win 2).flush t = true) :
    (dat0 V c).flushed 2 t = ((cfg0.win 2).blk t).view.read (Elt Ideal) (pool V c) := by
  have hN : cfg0.N = 32 := N_0
  have h3 : t.val = 31 := by have := (flush0_2 t).mp hf; have := t.isLt; omega
  obtain rfl : t = lastPt := Fin.ext h3
  show (cfg0.win 2).cut (grid0.coords lastPt) ((dat0 V c).after 2 lastPt) = _
  rw [after0_2]
  have hz' : (fun a => win0_2.index lastPt a * main_v2.ty.shape.size a) = fun _ => 0 := funext fun a => by fin_cases a <;> decide +kernel
  exact (Memref.read_access_unit_zero (Elt Ideal) main_v2 hz' (fun a => by rw [congrFun hz' a]; simp) (pool V c)).symm

theorem pool_final (c : Dev nD) : (dat0 V c).arrAt 2 cfg0.N = pool V c :=
  (dat0 V c).arrAt_eq_of_cover 2 (pool V c) (pool_written V c) fun i =>
    ⟨lastPt, (flush0_2 lastPt).mpr rfl, by
      show i ∈ ((View.whole main_v2).slice (win0_2.rect lastPt)).set
      rw [View.set_slice_whole, Rect.mem_set_unit]
      intro a
      have h0 : (i 0 : Nat) < 48 := (i 0).isLt
      have h1 : (i 1 : Nat) < 128 := (i 1).isLt
      match a with
      | ⟨0, _⟩ => show win0_2.index lastPt 0 * win0_2.size 0 ≤ (i 0 : Nat) ∧ (i 0 : Nat) < win0_2.index lastPt 0 * win0_2.size 0 + win0_2.xsize (grid0.coords lastPt) 0
                  rw [show win0_2.index lastPt 0 * win0_2.size 0 = 0 from by decide +kernel, show win0_2.xsize (grid0.coords lastPt) 0 = 48 from by decide +kernel]; omega
      | ⟨1, _⟩ => show win0_2.index lastPt 1 * win0_2.size 1 ≤ (i 1 : Nat) ∧ (i 1 : Nat) < win0_2.index lastPt 1 * win0_2.size 1 + win0_2.xsize (grid0.coords lastPt) 1
                  rw [show win0_2.index lastPt 1 * win0_2.size 1 = 0 from by decide +kernel, show win0_2.xsize (grid0.coords lastPt) 1 = 128 from by decide +kernel]; omega⟩

/-! ### The input blocks -/

theorem index_in0 (t : Fin cfg0.N) : win0_0.index t 0 = t.val ∧ win0_0.index t 1 = 0 := by
  have : ∀ t : Fin grid0.N, win0_0.index t 0 = t.val ∧ win0_0.index t 1 = 0 := by decide +kernel
  exact this t

theorem index_in1 (t : Fin cfg0.N) : win0_1.index t 0 = t.val ∧ win0_1.index t 1 = 0 := by
  have : ∀ t : Fin grid0.N, win0_1.index t 0 = t.val ∧ win0_1.index t 1 = 0 := by decide +kernel
  exact this t

theorem block_row {s : ℕ} (h : s < cfg0.N) (r : Fin 2048) : 2048 * s + r.val < 65536 := by
  have := Nat.lt_of_lt_of_eq h N_0; omega

theorem block0_apply (c : Dev nD) (s : ℕ) (h : s < cfg0.N) (r : Fin 2048) (l : Fin 128) :
    (iblk0 V c 0 ⟨s, h⟩ : FVec Ideal S2048x128 .f32) (ix2 r l)
      = (V c main_v0 : FVec Ideal S65536x128 .f32) (ix2 ⟨2048 * s + r.val, block_row h r⟩ l) := by
  unfold iblk0
  rw [View.read_apply]
  show V c main_v0 _ = V c main_v0 _
  congr 1
  funext a
  apply Fin.ext
  match a with
  | ⟨0, _⟩ => show win0_0.index ⟨s, h⟩ 0 * 2048 + 1 * r.val = 2048 * s + r.val; rw [(index_in0 ⟨s, h⟩).1]; dsimp only; omega
  | ⟨1, _⟩ => show win0_0.index ⟨s, h⟩ 1 * 128 + 1 * l.val = l.val; rw [(index_in0 ⟨s, h⟩).2]; omega

theorem block1_apply (c : Dev nD) (s : ℕ) (h : s < cfg0.N) (r : Fin 2048) (l : Fin 128) :
    (iblk0 V c 1 ⟨s, h⟩ : FVec Ideal S2048x128 .f32) (ix2 r l)
      = (V c main_v1 : FVec Ideal S65536x128 .f32) (ix2 ⟨2048 * s + r.val, block_row h r⟩ l) := by
  unfold iblk0
  rw [View.read_apply]
  show V c main_v1 _ = V c main_v1 _
  congr 1
  funext a
  apply Fin.ext
  match a with
  | ⟨0, _⟩ => show win0_1.index ⟨s, h⟩ 0 * 2048 + 1 * r.val = 2048 * s + r.val; rw [(index_in1 ⟨s, h⟩).1]; dsimp only; omega
  | ⟨1, _⟩ => show win0_1.index ⟨s, h⟩ 1 * 128 + 1 * l.val = l.val; rw [(index_in1 ⟨s, h⟩).2]; omega

theorem two_f32 : (Ideal.ofBits .f32 0x40000000#32) = ((2 : ℝ) : EReal) := by
  simp [Ideal.ofBits, Ideal.ieee, -EReal.coe_mul]; norm_num

theorem pay5_apply (x t : FVec Ideal S2048x128 .f32) (r : Fin 2048) (l : Fin 128) :
    k0_pay5 (F := Ideal) x t (ix2 r l) = (((2 : ℝ) : EReal) * t (ix2 r l) - 1) * x (ix2 r l) := by
  unfold k0_pay5
  simp only [shapeCast_self]
  show ((Ideal.ofBits .f32 0x40000000#32) * t (ix2 r l) - (Ideal.ofBits .f32 0x3F800000#32)) * x (ix2 r l) = _
  rw [two_f32, Ideal.ofBits_one_f32]

theorem laneBlocks_apply (c : Dev nD) (l : Fin 128) (s : ℕ) (h : s < cfg0.N) (r : Fin 2048) :
    laneBlocks V c l s r
      = (((2 : ℝ) : EReal) * (V c main_v1 : FVec Ideal S65536x128 .f32) (ix2 ⟨2048 * s + r.val, block_row h r⟩ l) - 1)
        * (V c main_v0 : FVec Ideal S65536x128 .f32) (ix2 ⟨2048 * s + r.val, block_row h r⟩ l) := by
  unfold laneBlocks
  rw [dif_pos h]
  show k0_pay5 (F := Ideal) _ _ (ix2 r l) = _
  rw [pay5_apply, block0_apply, block1_apply]

end Cert.KernelIdeal.Gen
-- ==== Proof.FinalSteps.lean ====
module

public import proofs.«01_k».proof.Proof.SelectSteps
public import proofs.«01_k».proof.Proof.Gen.KernelIdeal.Frame
public import Idealize.ShloMosaic.Lib.SortNet.Extract

/-!
The second call, value by value: fifteen rounds, each taking every column's least entry and replacing its
first occurrence by infinity, and the running total of the logarithms.
-/

set_option maxRecDepth 65536

@[expose] public section

noncomputable section

namespace Cert.KernelIdeal.Gen

open Idealize.ShloMosaic Idealize.SL.Sem
open Cert.Hardest

/-! ### A round's pieces -/

/-- The least entry of each column. -/
def mn192 (z : FVec Ideal S192x32 .f32) : FVec Ideal S1x32 .f32 :=
  shapeCast S1x32 (multiReduction .minimumf [0] S32 z 0x7F800000#32 reduces_S192x32_S32 (.inl rfl) rfl)
    shapeCasts_S32_S1x32

/-- The row numbers. -/
def rows192 : IVec S192x32 32 := iota .tc S192x32 32 [0] iota_S192x32_d0_w32

/-- Each column's first row holding its least entry, as a mask. -/
def hit192 (z : FVec Ideal S192x32 .f32) : IVec S192x32 1 :=
  cmpi .eq rows192 (broadcastTo S192x32 (shapeCast S1x32
    (multiReductionI .minsi [0] S32
      (select (cmpf .oeq z (broadcastTo S192x32 (mn192 z) broadcasts_S1x32_S192x32)) rows192 (broadcast S192x32 1073741824#32))
      2147483647#32 reduces_S192x32_S32 rfl) shapeCasts_S32_S1x32) broadcasts_S1x32_S192x32)

/-- The columns with that entry replaced by infinity. -/
def rm192 (z : FVec Ideal S192x32 .f32) : FVec Ideal S192x32 .f32 :=
  select (hit192 z) (broadcast S192x32 (Scalar.ofBits .f32 0x7F800000#32)) z

def en32 (m : FVec Ideal S1x32 .f32) : FVec Ideal S1x32 .f32 :=
  exp (subf (broadcast S1x32 (Scalar.ofBits .f32 0x00000000#32)) (absf m))

def ge32 (m : FVec Ideal S1x32 .f32) : IVec S1x32 1 :=
  cmpf .oge m (broadcast S1x32 (Scalar.ofBits .f32 0x00000000#32))

def den32 (m : FVec Ideal S1x32 .f32) : FVec Ideal S1x32 .f32 :=
  addf (broadcast S1x32 (Scalar.ofBits .f32 0x3F800000#32)) (en32 m)

def up32 (m : FVec Ideal S1x32 .f32) : FVec Ideal S1x32 .f32 :=
  divf (broadcast S1x32 (Scalar.ofBits .f32 0x3F800000#32)) (den32 m)

/-- The logarithm of the logistic of each entry plus the offset. -/
def lg192 (m : FVec Ideal S1x32 .f32) : FVec Ideal S1x32 .f32 :=
  log (addf (select (ge32 m) (up32 m) (divf (en32 m) (den32 m))) (broadcast S1x32 (Scalar.ofBits .f32 0x322BCC77#32)))

/-- The total of the columns over 480. -/
def avg32 (t : FVec Ideal S1x32 .f32) : FVec Ideal S1x1 .f32 :=
  divf (shapeCast S1x1 (multiReduction .add [1] S1 t 0x00000000#32 reduces_S1x32_S1 (.inl rfl) rfl) shapeCasts_S1_S1x1)
    (broadcast S1x1 (Scalar.ofBits .f32 0x43F00000#32))

/-- The array after some rounds. -/
def zs (x : FVec Ideal S192x32 .f32) : ℕ → FVec Ideal S192x32 .f32
  | 0 => x
  | n + 1 => rm192 (zs x n)

/-- The total after some rounds. -/
def tot (x : FVec Ideal S192x32 .f32) : ℕ → FVec Ideal S1x32 .f32
  | 0 => broadcast S1x32 (Scalar.ofBits .f32 0x00000000#32)
  | n + 1 => subf (tot x n) (lg192 (mn192 (zs x n)))

/-! ### The printed values -/

theorem f1 (x : FVec Ideal S192x32 .f32) : k1_pay1 x = x := by unfold k1_pay1; exact shapeCast_self ..
theorem f2 (x : FVec Ideal S192x32 .f32) : k1_pay2 x = mn192 (k1_pay1 x) := rfl
theorem f3 (x : FVec Ideal S192x32 .f32) : k1_pay3 x = rm192 (k1_pay1 x) := rfl
theorem f4 (x : FVec Ideal S192x32 .f32) :
    k1_pay4 x = subf (broadcast S1x32 (Scalar.ofBits .f32 0x00000000#32)) (lg192 (mn192 (k1_pay1 x))) := rfl
theorem f5 (x : FVec Ideal S192x32 .f32) : k1_pay5 x = mn192 (rm192 (k1_pay1 x)) := rfl
theorem f6 (x : FVec Ideal S192x32 .f32) : k1_pay6 (F := Ideal) x = hit192 (rm192 (k1_pay1 x)) := rfl
theorem f7 (z : FVec Ideal S192x32 .f32) : k1_pay7 z (hit192 z) = rm192 z := rfl
theorem f8 (t m : FVec Ideal S1x32 .f32) : k1_pay8 t m = subf t (lg192 m) := rfl
theorem f9 (z : FVec Ideal S192x32 .f32) : k1_pay9 z (hit192 z) = mn192 (rm192 z) := rfl
theorem f10 (z : FVec Ideal S192x32 .f32) : k1_pay10 rows192 z (hit192 z) = rm192 (rm192 z) := rfl
theorem f11 (z : FVec Ideal S192x32 .f32) : k1_pay11 z (hit192 z) = en32 (mn192 (rm192 z)) := rfl
theorem f12 (z : FVec Ideal S192x32 .f32) : k1_pay12 (F := Ideal) z (hit192 z) = ge32 (mn192 (rm192 z)) := rfl
theorem f13 (z : FVec Ideal S192x32 .f32) : k1_pay13 z (hit192 z) = up32 (mn192 (rm192 z)) := rfl
theorem f14 (z : FVec Ideal S192x32 .f32) : k1_pay14 z (hit192 z) = den32 (mn192 (rm192 z)) := rfl
theorem f15 (z : FVec Ideal S192x32 .f32) : k1_pay15 z = mn192 z := rfl
theorem f16 (z : FVec Ideal S192x32 .f32) : k1_pay16 rows192 z = rm192 z := rfl
theorem f17 (t m : FVec Ideal S1x32 .f32) (z : FVec Ideal S192x32 .f32) :
    k1_pay17 t z (en32 m) (ge32 m) (up32 m) (den32 m) = subf (subf t (lg192 m)) (lg192 (mn192 z)) := rfl
theorem f18 (z : FVec Ideal S192x32 .f32) : k1_pay18 rows192 z = mn192 (rm192 z) := rfl
theorem f19 (z : FVec Ideal S192x32 .f32) : k1_pay19 (F := Ideal) rows192 z = hit192 (rm192 z) := rfl
theorem f20 (z : FVec Ideal S192x32 .f32) : k1_pay20 z (hit192 z) = rm192 z := rfl
theorem f21 (t m : FVec Ideal S1x32 .f32) : k1_pay21 t m = subf t (lg192 m) := rfl
theorem f22 (z : FVec Ideal S192x32 .f32) : k1_pay22 z (hit192 z) = mn192 (rm192 z) := rfl
theorem f23 (z : FVec Ideal S192x32 .f32) : k1_pay23 rows192 z (hit192 z) = rm192 (rm192 z) := rfl
theorem f24 (z : FVec Ideal S192x32 .f32) : k1_pay24 z (hit192 z) = en32 (mn192 (rm192 z)) := rfl
theorem f25 (z : FVec Ideal S192x32 .f32) : k1_pay25 (F := Ideal) z (hit192 z) = ge32 (mn192 (rm192 z)) := rfl
theorem f26 (z : FVec Ideal S192x32 .f32) : k1_pay26 z (hit192 z) = up32 (mn192 (rm192 z)) := rfl
theorem f27 (z : FVec Ideal S192x32 .f32) : k1_pay27 z (hit192 z) = den32 (mn192 (rm192 z)) := rfl
theorem f28 (z : FVec Ideal S192x32 .f32) : k1_pay28 z = mn192 z := rfl
theorem f29 (z : FVec Ideal S192x32 .f32) : k1_pay29 rows192 z = rm192 z := rfl
theorem f30 (t m : FVec Ideal S1x32 .f32) (z : FVec Ideal S192x32 .f32) :
    k1_pay30 t z (en32 m) (ge32 m) (up32 m) (den32 m) = subf (subf t (lg192 m)) (lg192 (mn192 z)) := rfl
theorem f31 (z : FVec Ideal S192x32 .f32) : k1_pay31 rows192 z = mn192 (rm192 z) := rfl
theorem f32 (z : FVec Ideal S192x32 .f32) : k1_pay32 (F := Ideal) rows192 z = hit192 (rm192 z) := rfl
theorem f33 (z : FVec Ideal S192x32 .f32) : k1_pay33 z (hit192 z) = rm192 z := rfl
theorem f34 (t m : FVec Ideal S1x32 .f32) : k1_pay34 t m = subf t (lg192 m) := rfl
theorem f35 (z : FVec Ideal S192x32 .f32) : k1_pay35 z (hit192 z) = mn192 (rm192 z) := rfl
theorem f36 (z : FVec Ideal S192x32 .f32) : k1_pay36 rows192 z (hit192 z) = rm192 (rm192 z) := rfl
theorem f37 (z : FVec Ideal S192x32 .f32) : k1_pay37 z (hit192 z) = en32 (mn192 (rm192 z)) := rfl
theorem f38 (z : FVec Ideal S192x32 .f32) : k1_pay38 (F := Ideal) z (hit192 z) = ge32 (mn192 (rm192 z)) := rfl
theorem f39 (z : FVec Ideal S192x32 .f32) : k1_pay39 z (hit192 z) = up32 (mn192 (rm192 z)) := rfl
theorem f40 (z : FVec Ideal S192x32 .f32) : k1_pay40 z (hit192 z) = den32 (mn192 (rm192 z)) := rfl
theorem f41 (z : FVec Ideal S192x32 .f32) : k1_pay41 z = mn192 z := rfl
theorem f42 (z : FVec Ideal S192x32 .f32) : k1_pay42 rows192 z = rm192 z := rfl
theorem f43 (t m : FVec Ideal S1x32 .f32) (z : FVec Ideal S192x32 .f32) :
    k1_pay43 t z (en32 m) (ge32 m) (up32 m) (den32 m) = subf (subf t (lg192 m)) (lg192 (mn192 z)) := rfl
theorem f44 (z : FVec Ideal S192x32 .f32) : k1_pay44 rows192 z = mn192 (rm192 z) := rfl
theorem f45 (z : FVec Ideal S192x32 .f32) : k1_pay45 (F := Ideal) rows192 z = hit192 (rm192 z) := rfl
theorem f46 (z : FVec Ideal S192x32 .f32) : k1_pay46 z (hit192 z) = rm192 z := rfl
theorem f47 (t m : FVec Ideal S1x32 .f32) : k1_pay47 t m = subf t (lg192 m) := rfl
theorem f48 (z : FVec Ideal S192x32 .f32) : k1_pay48 z (hit192 z) = mn192 (rm192 z) := rfl
theorem f49 (z : FVec Ideal S192x32 .f32) : k1_pay49 rows192 z (hit192 z) = rm192 (rm192 z) := rfl
theorem f50 (z : FVec Ideal S192x32 .f32) : k1_pay50 z (hit192 z) = en32 (mn192 (rm192 z)) := rfl
theorem f51 (z : FVec Ideal S192x32 .f32) : k1_pay51 (F := Ideal) z (hit192 z) = ge32 (mn192 (rm192 z)) := rfl
theorem f52 (z : FVec Ideal S192x32 .f32) : k1_pay52 z (hit192 z) = up32 (mn192 (rm192 z)) := rfl
theorem f53 (z : FVec Ideal S192x32 .f32) : k1_pay53 z (hit192 z) = den32 (mn192 (rm192 z)) := rfl
theorem f54 (z : FVec Ideal S192x32 .f32) : k1_pay54 z = mn192 z := rfl
theorem f55 (z : FVec Ideal S192x32 .f32) : k1_pay55 rows192 z = rm192 z := rfl
theorem f56 (t m : FVec Ideal S1x32 .f32) (z : FVec Ideal S192x32 .f32) :
    k1_pay56 t z (en32 m) (ge32 m) (up32 m) (den32 m) = subf (subf t (lg192 m)) (lg192 (mn192 z)) := rfl
theorem f57 (z : FVec Ideal S192x32 .f32) : k1_pay57 rows192 z = mn192 (rm192 z) := rfl
theorem f58 (z : FVec Ideal S192x32 .f32) : k1_pay58 (F := Ideal) rows192 z = hit192 (rm192 z) := rfl
theorem f59 (z : FVec Ideal S192x32 .f32) (t m : FVec Ideal S1x32 .f32) :
    k1_pay59 z t m (hit192 z) = avg32 (subf (subf t (lg192 m)) (lg192 (mn192 (rm192 z)))) := rfl
theorem f60 (x : FVec Ideal S192x32 .f32) : k1_pay60 (F := Ideal) x = rows192 := rfl

theorem zeros2' : (![0, 0] : Fin 2 → Nat) = fun _ => 0 := funext fun a => by fin_cases a <;> rfl

theorem ld1 (x : Vec Ideal S192x32 .f32) : View.ld x r1_0 = x := View.ld_unit_zero (S := S192x32) zeros2' _ x

theorem s61 (x : FVec Ideal S192x32 .f32) : k1_pay61 x = zs x 1 := by unfold k1_pay61; rw [ld1, f3, f1]; rfl
theorem s62 (x : FVec Ideal S192x32 .f32) : k1_pay62 (F := Ideal) x = hit192 (zs x 1) := by unfold k1_pay62; rw [ld1, f6, f1]; rfl
theorem s63 (x : FVec Ideal S192x32 .f32) : k1_pay63 (F := Ideal) x = zs x 3 := by unfold k1_pay63; rw [f60, s61, s62, f10]; rfl
theorem s64 (x : FVec Ideal S192x32 .f32) : k1_pay64 (F := Ideal) x = zs x 4 := by unfold k1_pay64; rw [f60, s63, f16]; rfl
theorem s65 (x : FVec Ideal S192x32 .f32) : k1_pay65 (F := Ideal) x = hit192 (zs x 4) := by unfold k1_pay65; rw [f60, s63, f19]; rfl
theorem s66 (x : FVec Ideal S192x32 .f32) : k1_pay66 (F := Ideal) x = zs x 6 := by unfold k1_pay66; rw [f60, s64, s65, f23]; rfl
theorem s67 (x : FVec Ideal S192x32 .f32) : k1_pay67 (F := Ideal) x = zs x 7 := by unfold k1_pay67; rw [f60, s66, f29]; rfl
theorem s68 (x : FVec Ideal S192x32 .f32) : k1_pay68 (F := Ideal) x = hit192 (zs x 7) := by unfold k1_pay68; rw [f60, s66, f32]; rfl
theorem s69 (x : FVec Ideal S192x32 .f32) : k1_pay69 (F := Ideal) x = zs x 9 := by unfold k1_pay69; rw [f60, s67, s68, f36]; rfl
theorem s70 (x : FVec Ideal S192x32 .f32) : k1_pay70 (F := Ideal) x = zs x 10 := by unfold k1_pay70; rw [f60, s69, f42]; rfl
theorem s71 (x : FVec Ideal S192x32 .f32) : k1_pay71 (F := Ideal) x = hit192 (zs x 10) := by unfold k1_pay71; rw [f60, s69, f45]; rfl
theorem s72 (x : FVec Ideal S192x32 .f32) : k1_pay72 (F := Ideal) x = zs x 12 := by unfold k1_pay72; rw [f60, s70, s71, f49]; rfl

theorem final_value (x : FVec Ideal S192x32 .f32) : out1_1 (F := Ideal) x = avg32 (tot x 15) := by
  unfold out1_1
  rw [View.canon_unit_zero zeros2']
  simp only [ld1, f4, f5, f1, f60, f7, f8, f9, f10, f11, f12, f13, f14, f15, f16, f17, f18, f19, f20, f21, f22, f23, f24, f25, f26, f27, f28, f29, f30, f31, f32, f33, f34, f35, f36, f37, f38, f39, f40, f41, f42, f43, f44, f45, f46, f47, f48, f49, f50, f51, f52, f53, f54, f55, f56, f57, f58, s61, s62, s63, s64, s65, s66, s67, s68, s69, s70, s71, s72]
  rfl

end Cert.KernelIdeal.Gen
-- ==== Proof.FinalValue.lean ====
module

public import proofs.«01_k».proof.Proof.FinalSteps
public import proofs.«01_k».proof.Proof.Counts
public import Idealize.ShloMosaic.PureOps.Ideal.Laws

/-!
The second call's rounds read column by column.
-/

@[expose] public section

noncomputable section

namespace Cert.KernelIdeal.Gen

open Idealize.ShloMosaic Idealize.SL.Sem
open Cert.Hardest
open Idealize.ShloMosaic.SortNet (toInt_minsi)

/-- A column of the candidates. -/
def cl (z : FVec Ideal S192x32 .f32) (c : Fin 32) : Fin 192 → EReal := fun i => z (ix2 i c)

theorem mn192_apply (z : FVec Ideal S192x32 .f32) (c : Fin 32) : mn192 z (ix2 0 c) = mn (cl z c) := by
  unfold mn192
  rw [shapeCast_apply _ _ (ix2 0 c) (ix1 c) (by rw [Shape.rowMajor_val_one, Shape.rowMajor_val_two]; simp)]
  refine (minimum_single z _ reduces_S192x32_S32 _ _ (ix1 c)).trans ?_
  rw [show Ideal.ofBits .f32 0x7F800000#32 = ⊤ from ofBits_top]
  unfold mn Finset.inf cl
  refine congrArg (Finset.fold min ⊤ · Finset.univ) ?_
  funext i
  refine congrArg z ?_
  funext b; fin_cases b <;> rfl

theorem toInt_row (i : Fin 192) : (BitVec.ofNat 32 i.val).toInt = (i.val : ℤ) := by
  rw [BitVec.toInt_ofNat']
  have := i.isLt
  simp only [Int.bmod]
  omega

/-- The least of the marked row numbers. -/
theorem least_row (w : Fin 192 → BitVec 32) (P : Fin 192 → Prop) (i0 : Fin 192) (h0 : P i0) (hmin : ∀ i, P i → i0 ≤ i)
    (hw : ∀ i, P i → w i = BitVec.ofNat 32 i.val) (hw' : ∀ i, ¬ P i → w i = 1073741824#32) :
    (Finset.univ : Finset (Fin 192)).fold IntOp.minsi 2147483647#32 w = BitVec.ofNat 32 i0.val := by
  apply BitVec.eq_of_toInt_eq
  rw [← Finset.fold_hom (op' := min) (m := BitVec.toInt) (fun x y => (toInt_minsi x y).symm ▸ rfl), toInt_row]
  have := i0.isLt
  apply le_antisymm
  · rw [Finset.fold_min_le]
    exact Or.inr ⟨i0, Finset.mem_univ _, by rw [hw i0 h0, toInt_row]⟩
  · rw [Finset.le_fold_min]
    refine ⟨?_, fun i _ => ?_⟩
    · rw [show (2147483647#32).toInt = 2147483647 from by decide]; omega
    · by_cases hp : P i
      · rw [hw i hp, toInt_row]; have : i0.val ≤ i.val := hmin i hp; omega
      · rw [hw' i hp, show (1073741824#32).toInt = 1073741824 from by decide]; omega

theorem row_words {i j : Fin 192} (h : BitVec.ofNat 32 i.val = BitVec.ofNat 32 j.val) : i = j := by
  have := congrArg BitVec.toInt h
  rw [toInt_row, toInt_row] at this
  exact Fin.ext (by exact_mod_cast this)

open Classical in
theorem remove_one (z : FVec Ideal S192x32 .f32) (c : Fin 32) :
    ∃ i0 : Fin 192, cl z c i0 = mn (cl z c) ∧ cl (rm192 z) c = fun i => if i = i0 then ⊤ else cl z c i := by
  obtain ⟨k, -, hk⟩ : ∃ k ∈ (Finset.univ : Finset (Fin 192)), Finset.univ.inf (cl z c) = cl z c k :=
    Finset.exists_mem_eq_inf Finset.univ Finset.univ_nonempty _
  let S := (Finset.univ : Finset (Fin 192)).filter fun i => cl z c i = mn (cl z c)
  have hS : S.Nonempty := ⟨k, by simp only [S, Finset.mem_filter, Finset.mem_univ, true_and]; exact hk.symm⟩
  let i0 := S.min' hS
  have h0 : cl z c i0 = mn (cl z c) := (Finset.mem_filter.mp (S.min'_mem hS)).2
  refine ⟨i0, h0, funext fun i => ?_⟩
  have hmask : hit192 z (ix2 i c) = BitVec.ofBool (decide (i = i0)) := by
    unfold hit192
    show IntOp.cmpi .eq (rows192 (ix2 i c)) (broadcastTo S192x32 _ broadcasts_S1x32_S192x32 (ix2 i c)) = _
    have hr : ∀ i : Fin 192, rows192 (ix2 i c) = BitVec.ofNat 32 i.val := fun i => by
      show BitVec.ofNat 32 (0 * 192 + i.val) = _
      rw [Nat.zero_mul, Nat.zero_add]
    have hl : ∀ i : Fin 192, reduces_S192x32_S32.lift (ix1 c) i = ix2 i c := fun i => by
      funext b; fin_cases b <;> rfl
    have hsel : ∀ i : Fin 192, (select (cmpf .oeq z (broadcastTo S192x32 (mn192 z) broadcasts_S1x32_S192x32)) rows192 (broadcast S192x32 1073741824#32) ∘ reduces_S192x32_S32.lift (ix1 c)) i
        = if cl z c i = mn (cl z c) then BitVec.ofNat 32 i.val else 1073741824#32 := fun i => by
      show select _ _ _ (reduces_S192x32_S32.lift (ix1 c) i) = _
      rw [hl]
      show Scalar.select (Ideal.cmp .oeq (z (ix2 i c)) (broadcastTo S192x32 (mn192 z) broadcasts_S1x32_S192x32 (ix2 i c)))
        (rows192 (ix2 i c)) 1073741824#32 = _
      rw [broadcastTo_apply _ _ (ix2 i c) (ix2 0 c) (fun b => by fin_cases b <;> rfl), mn192_apply, hr]
      unfold cl
      by_cases h : z (ix2 i c) = mn (fun i => z (ix2 i c))
      · rw [if_pos h]; simp [Scalar.select, Ideal.cmp, h]
      · rw [if_neg h]; simp [Scalar.select, Ideal.cmp, h]
    have key := least_row (select (cmpf .oeq z (broadcastTo S192x32 (mn192 z) broadcasts_S1x32_S192x32)) rows192 (broadcast S192x32 1073741824#32) ∘ reduces_S192x32_S32.lift (ix1 c))
      (fun i => cl z c i = mn (cl z c)) i0 h0
      (fun i hi => S.min'_le i (by simp only [S, Finset.mem_filter, Finset.mem_univ, true_and]; exact hi))
      (fun i hi => (hsel i).trans (if_pos hi)) (fun i hi => (hsel i).trans (if_neg hi))
    have e : multiReductionI .minsi [0] S32 (select (cmpf .oeq z (broadcastTo S192x32 (mn192 z) broadcasts_S1x32_S192x32)) rows192 (broadcast S192x32 1073741824#32))
        2147483647#32 reduces_S192x32_S32 rfl (ix1 c) = BitVec.ofNat 32 i0.val :=
      (multiReductionI_eq_fold .minsi _ _ reduces_S192x32_S32 rfl (ix1 c)).trans
        ((reduces_S192x32_S32.fold_filter_drop_single _ _ _ (ix1 c)).trans key)
    have e2 : broadcastTo S192x32 (shapeCast S1x32
        (multiReductionI .minsi [0] S32 (select (cmpf .oeq z (broadcastTo S192x32 (mn192 z) broadcasts_S1x32_S192x32)) rows192 (broadcast S192x32 1073741824#32))
        2147483647#32 reduces_S192x32_S32 rfl) shapeCasts_S32_S1x32) broadcasts_S1x32_S192x32 (ix2 i c) = BitVec.ofNat 32 i0.val :=
      (broadcastTo_apply _ _ (ix2 i c) (ix2 0 c) (fun b => by fin_cases b <;> rfl)).trans
        ((shapeCast_apply _ _ (ix2 0 c) (ix1 c) (by rw [Shape.rowMajor_val_one, Shape.rowMajor_val_two]; simp)).trans e)
    refine (congrArg₂ (IntOp.cmpi .eq) (hr i) e2).trans ?_
    by_cases h : i = i0
    · subst h; simp [IntOp.cmpi]
    · have : BitVec.ofNat 32 i.val ≠ BitVec.ofNat 32 i0.val := fun e => h (row_words e)
      show BitVec.ofBool (BitVec.ofNat 32 i.val == BitVec.ofNat 32 i0.val) = _
      rw [beq_eq_false_iff_ne.mpr this, decide_eq_false h]
  show Scalar.select (hit192 z (ix2 i c)) (FloatOps.ofBits (F := Ideal) .f32 0x7F800000#32) (z (ix2 i c)) = _
  rw [hmask, ofBits_top]
  by_cases h : i = i0
  · rw [if_pos h]; simp [Scalar.select, h]
  · rw [if_neg h]; simp [Scalar.select, h, cl]

/-- The least entries of the successive rounds count the entries at most a value. -/
theorem round_le_iff (x : FVec Ideal S192x32 .f32) (c : Fin 32) (v : EReal) (hv : v < ⊤) (k : ℕ) :
    mn (cl (zs x k) c) ≤ v ↔ k < cnt (· ≤ v) (cl x c) := by
  choose i0 h0 hs using fun k => remove_one (zs x k) c
  exact removal_le_iff (fun k => cl (zs x k) c) i0 h0 (fun k => by rw [show cl (zs x (k+1)) c = _ from hs k]; congr!) v hv k

/-- The logarithm the kernel takes of an entry. -/
def klog (m : EReal) : EReal :=
  Ideal.log (Scalar.select (Ideal.cmp .oge m 0)
    (Ideal.div 1 (1 + Ideal.exp (0 - max m (-m))))
    (Ideal.div (Ideal.exp (0 - max m (-m))) (1 + Ideal.exp (0 - max m (-m)))) + Ideal.ofBits .f32 0x322BCC77#32)

theorem lg192_apply (m : FVec Ideal S1x32 .f32) (c : Fin 32) : lg192 m (ix2 0 c) = klog (m (ix2 0 c)) := by
  unfold klog
  rw [← Ideal.ofBits_one_f32, ← Ideal.ofBits_zero_f32]
  rfl

/-- A column's total after some rounds. -/
def total (x : FVec Ideal S192x32 .f32) (c : Fin 32) : ℕ → EReal
  | 0 => 0
  | n + 1 => total x c n - klog (mn (cl (zs x n) c))

theorem tot_apply (x : FVec Ideal S192x32 .f32) (c : Fin 32) (n : ℕ) : tot x n (ix2 0 c) = total x c n := by
  induction n with
  | zero => exact Ideal.ofBits_zero_f32
  | succ n ih =>
    show tot x n (ix2 0 c) - lg192 (mn192 (zs x n)) (ix2 0 c) = total x c n - _
    rw [ih, lg192_apply, mn192_apply]

theorem avg32_apply (t : FVec Ideal S1x32 .f32) (i : S1x1.Idx) :
    avg32 t i = Ideal.div (∑ c : Fin 32, t (ix2 0 c)) (Ideal.ofBits .f32 0x43F00000#32) := by
  show Ideal.div (shapeCast S1x1 _ shapeCasts_S1_S1x1 i) _ = _
  congr 1
  rw [shapeCast_apply _ _ i (ix1 0) (by
    have h0 : (i 0).val < 1 := (i 0).isLt
    have h1 : (i 1).val < 1 := (i 1).isLt
    rw [Shape.rowMajor_val_one, Shape.rowMajor_val_two]; simp; omega)]
  refine (Ideal.multiReduction_add_single _ _ reduces_S1x32_S1 _ _ (ix1 0)).trans ?_
  refine Finset.sum_congr rfl fun c _ => congrArg t ?_
  funext b; fin_cases b <;> rfl

end Cert.KernelIdeal.Gen
-- ==== Proof.KernelRun.lean ====
module

public import proofs.«01_k».proof.Proof.SelectValue
public import proofs.«01_k».proof.Proof.FinalValue
public import proofs.«01_k».proof.Proof.Gen.KernelIdeal.Frame
public import Idealize.ShloMosaic.Lib.StableHlo.Run

/-!
The kernel's run: its result is what the second call computes from the first call's pool.
-/

@[expose] public section

noncomputable section

open Idealize.ShloMosaic Idealize.ShloMosaic.TcCoe Idealize.SL.Sem
open Idealize.ShloMosaic.Pipeline (Dat)

namespace Cert.KernelIdeal.Gen

section
variable (V : (c : Dev nD) → (b : Ref sig .tc) → Buf (Elt Ideal) ((c : Thread nD τ).loc b))

/-- The second call reads the whole of its operand. -/
theorem operand (c : Dev nD) (t : Fin cfg1.N) : iblk1 V c 0 t = (V c main_v3 : Vec Ideal S192x32 .f32) := by
  unfold iblk1
  have hz' : (fun a => win1_0.index t a * main_v3.ty.shape.size a) = fun _ => 0 := by
    have : ∀ t : Fin grid1.N, ∀ a, win1_0.index t a * main_v3.ty.shape.size a = 0 := by decide +kernel
    exact funext (this t)
  exact Memref.read_access_unit_zero (Elt Ideal) main_v3 hz' (fun a => by rw [congrFun hz' a]; simp) (V c main_v3)

abbrev scalar (c : Dev nD) : Buf (Elt Ideal) ((c : Thread nD τ).loc main_v4) := out1_1 (F := Ideal) (V c main_v3)

theorem scalar_written (c : Dev nD) (t : Fin cfg1.N) (hf : (cfg1.win 1).flush t = true) :
    (dat1 V c).flushed 1 t = ((cfg1.win 1).blk t).view.read (Elt Ideal) (scalar V c) := by
  show (cfg1.win 1).cut (grid1.coords t) ((dat1 V c).after 1 t) = _
  rw [after1_1, operand]
  have hz' : (fun a => win1_1.index t a * main_v4.ty.shape.size a) = fun _ => 0 := by
    have : ∀ t : Fin grid1.N, ∀ a, win1_1.index t a * main_v4.ty.shape.size a = 0 := by decide +kernel
    exact funext (this t)
  exact (Memref.read_access_unit_zero (Elt Ideal) main_v4 hz' (fun a => by rw [congrFun hz' a]; simp) (scalar V c)).symm

theorem scalar_final (c : Dev nD) : (dat1 V c).arrAt 1 cfg1.N = scalar V c :=
  (dat1 V c).arrAt_eq_of_cover 1 (scalar V c) (scalar_written V c) fun i =>
    ⟨t1_0, flush1_1 t1_0, by
      show i ∈ ((View.whole main_v4).slice (win1_1.rect t1_0)).set
      rw [View.set_slice_whole, Rect.mem_set_unit]
      intro a
      have h0 : (i 0 : Nat) < 1 := (i 0).isLt
      have h1 : (i 1 : Nat) < 1 := (i 1).isLt
      match a with
      | ⟨0, _⟩ => show win1_1.index t1_0 0 * win1_1.size 0 ≤ (i 0 : Nat) ∧ (i 0 : Nat) < win1_1.index t1_0 0 * win1_1.size 0 + win1_1.xsize (grid1.coords t1_0) 0
                  rw [show win1_1.index t1_0 0 * win1_1.size 0 = 0 from by decide +kernel, show win1_1.xsize (grid1.coords t1_0) 0 = 1 from by decide +kernel]; omega
      | ⟨1, _⟩ => show win1_1.index t1_0 1 * win1_1.size 1 ≤ (i 1 : Nat) ∧ (i 1 : Nat) < win1_1.index t1_0 1 * win1_1.size 1 + win1_1.xsize (grid1.coords t1_0) 1
                  rw [show win1_1.index t1_0 1 * win1_1.size 1 = 0 from by decide +kernel, show win1_1.xsize (grid1.coords t1_0) 1 = 1 from by decide +kernel]; omega⟩

end

variable (m : (ℓ : Loc nD τ sig) → Buf (Elt Ideal) ℓ) (ρ : Dev nD → PrngReg)

/-- The logits as the kernel lays them out. -/
theorem V1_logits (c : Dev nD) : V1 m ρ c main_v0
    = shapeCast S65536x128 (m ((c : Thread nD τ).loc main_arg0)) shapeCasts_S262144x32_S65536x128 := by
  show StableHlo.after hostOps0 (W0 m ρ c) (Proc.devRef .tc main_v0) = _
  simp only [hostOps0]
  after_results_simp
  rfl

/-- The targets as the kernel lays them out. -/
theorem V1_targets (c : Dev nD) : V1 m ρ c main_v1
    = shapeCast S65536x128 (m ((c : Thread nD τ).loc main_arg1)) shapeCasts_S262144x32_S65536x128 := by
  show StableHlo.after hostOps0 (W0 m ρ c) (Proc.devRef .tc main_v1) = _
  simp only [hostOps0]
  after_results_simp
  rfl

/-- The candidates: the pool, each class's lanes gathered. -/
theorem V3_cands (c : Dev nD) : V3 m ρ c main_v3
    = shapeCast S192x32 (pool (V1 m ρ) c : Vec Ideal S48x128 .f32) shapeCasts_S48x128_S192x32 := by
  have h2 : W2 m ρ c (Proc.devRef .tc main_v2) = pool (V1 m ρ) c := (W2_arr m ρ c 2).trans (pool_final (V1 m ρ) c)
  show StableHlo.after hostOps1 (W2 m ρ c) (Proc.devRef .tc main_v3) = _
  rw [← h2]
  simp only [hostOps1]
  after_results_simp
  rfl

/-- The kernel's result. -/
def result (c : Dev nD) : Buf (Elt Ideal) ((c.tc : Thread nD τ).loc main_v5) :=
  shapeCast S_ (out1_1 (F := Ideal) (V3 m ρ c main_v3)) shapeCasts_S1x1_S_

theorem W5_result (c : Dev nD) : W5 m ρ c (Proc.devRef .tc main_v5) = result m ρ c := by
  have h4 : W4 m ρ c (Proc.devRef .tc main_v4) = scalar (V3 m ρ) c := (W4_arr m ρ c 1).trans (scalar_final (V3 m ρ) c)
  unfold result
  rw [show out1_1 (F := Ideal) (V3 m ρ c main_v3) = scalar (V3 m ρ) c from rfl, ← h4]
  show StableHlo.after hostOps2 (W4 m ρ c) (Proc.devRef .tc main_v5) = _
  simp only [hostOps2]
  after_results_simp
  rfl

section Run

open Idealize.ShloMosaic.Tactic
open Idealize.SL Idealize.SL.RA Idealize.SL.BI
open scoped Idealize.SL.BI
open Idealize.SL.BI.BIBase Idealize.SL.BI.Laws Idealize.SL.ProofMode
open Idealize.ShloMosaic.Rounds
open Idealize.ShloMosaic.Pipeline (Cfg Window BodyObligation cellOf)

local notation "𝕄" => MT nD τ sig Unit (Elt Ideal) ℕ (UR sig nD τ) ℕ

set_option backward.isDefEq.respectTransparency.types false in
/-- Every run ends with the result at `result` and the arguments as they were. -/
theorem run : θ_run defs (onTc (τ := τ) (main (F := Ideal))) ⟨m, fun _ => 0, ρ⟩ (fun r => ∀ c : Dev nD,
      r.2.mem ((c.tc : Thread nD τ).loc main_v5) = result m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz c =>
      ⟨(h c _ (mem_uc main_v5 (by decide))).trans (W5_result m ρ c),
       (h c _ (mem_uc main_arg0 (by decide))).trans (W5_main_arg0 m ρ c),
       (h c _ (mem_uc main_arg1 (by decide))).trans (W5_main_arg1 m ρ c)⟩)

end Run

end Cert.KernelIdeal.Gen
-- ==== Proof.Agree.lean ====
module

public import proofs.«01_k».proof.Proof.Counts
public import proofs.«01_k».proof.Proof.Pool

/-!
A class's 262144 values lie in four lanes of 65536; the pool of its lanes and the class agree on
how many values are at most any bound, up to the fifteenth.
-/

@[expose] public section

noncomputable section

namespace Cert.Hardest

open Finset

/-- A family over `a * b` positions counted by the remainder of the position. -/
theorem cnt_by_remainder {a b : ℕ} (p : EReal → Prop) (f : Fin (a * b) → EReal) (g : Fin b → Fin a → EReal)
    (h : ∀ (i : Fin a) (j : Fin b), f (finProdFinEquiv (i, j)) = g j i) : cnt p f = ∑ j, cnt p (g j) := by
  classical
  simp only [cnt_eq_sum]
  rw [← finProdFinEquiv.sum_comp, Fintype.sum_prod_type, Finset.sum_comm]
  simp only [h]

/-- The same family counted by the quotient of the position. -/
theorem cnt_by_quotient {a b : ℕ} (p : EReal → Prop) (f : Fin (a * b) → EReal) (g : Fin a → Fin b → EReal)
    (h : ∀ (i : Fin a) (j : Fin b), f (finProdFinEquiv (i, j)) = g i j) : cnt p f = ∑ i, cnt p (g i) := by
  classical
  simp only [cnt_eq_sum]
  rw [← finProdFinEquiv.sum_comp, Fintype.sum_prod_type]
  simp only [h]

/-- The position of a row of a block within its lane. -/
def laneRow (s : ℕ) (hs : s < 32) (r : Fin 2048) : Fin 65536 := ⟨2048 * s + r.val, by have := r.isLt; omega⟩

/-- The position of a lane's row within its class. -/
def classRow (R : Fin 65536) (q : Fin 4) : Fin 262144 := ⟨4 * R.val + q.val, by have := R.isLt; have := q.isLt; omega⟩

/-- The position of a pool entry of a lane within its class's candidates. -/
def candRow (p : Fin 48) (q : Fin 4) : Fin 192 := ⟨4 * p.val + q.val, by have := p.isLt; have := q.isLt; omega⟩

/-- A lane cut into blocks of 2048. -/
def blocks (Q : Fin 65536 → EReal) (s : ℕ) : Fin 2048 → EReal :=
  fun r => if hs : s < 32 then Q (laneRow s hs r) else ⊤

theorem cntTo_blocks (p : EReal → Prop) (Q : Fin 65536 → EReal) : cntTo p (blocks Q) 32 = cnt p Q := by
  unfold cntTo
  rw [Finset.sum_range]
  refine (cnt_by_quotient (a := 32) (b := 2048) p Q (fun s => blocks Q s.val) fun s r => ?_).symm
  unfold blocks
  rw [dif_pos s.isLt]
  congr 1
  apply Fin.ext
  show r.val + 2048 * s.val = 2048 * s.val + r.val
  omega

theorem cnt_lanes (p : EReal → Prop) (z : Fin 262144 → EReal) :
    cnt p z = ∑ q, cnt p (fun R => z (classRow R q)) :=
  cnt_by_remainder (a := 65536) (b := 4) p z (fun q R => z (classRow R q)) fun R q => by
    congr 1; apply Fin.ext; show q.val + 4 * R.val = 4 * R.val + q.val; omega

theorem cnt_cands (p : EReal → Prop) (w : Fin 192 → EReal) :
    cnt p w = ∑ q, cnt p (fun e => w (candRow e q)) :=
  cnt_by_remainder (a := 48) (b := 4) p w (fun q e => w (candRow e q)) fun e q => by
    congr 1; apply Fin.ext; show q.val + 4 * e.val = 4 * e.val + q.val; omega

theorem lane_le_class (p : EReal → Prop) (z : Fin 262144 → EReal) (q : Fin 4) :
    cnt p (fun R => z (classRow R q)) ≤ cnt p z := by
  rw [cnt_lanes p z]
  exact Finset.single_le_sum (f := fun q => cnt p (fun R => z (classRow R q))) (fun _ _ => Nat.zero_le _) (Finset.mem_univ q)

/-- Below the bound at which a lane's values are pairwise distinct, its pool counts what the lane counts. -/
theorem lane_agree (Q : Fin 65536 → EReal) (θ : EReal) (hθ : θ < ⊤) (hc : cnt (· < θ) Q ≤ 14)
    (hd : ∀ i j, i ≠ j → Q i = Q j → Q i ≤ θ → False) (v : EReal) (hv : v ≤ θ) :
    cnt (· ≤ v) (poolSeq (blocks Q) 32) = cnt (· ≤ v) Q := by
  classical
  apply le_antisymm
  · refine le_trans (pool_up (p := (· ≤ v)) (down_le v) ?_ (blocks Q) 32) (le_of_eq (cntTo_blocks _ _))
    exact not_le.mpr (lt_of_le_of_lt hv hθ)
  · have hex : ∀ i : Fin 65536, Q i ≤ v → ∃ e, poolSeq (blocks Q) 32 e = Q i := fun i hi => by
      have hi' : Q i ≤ θ := le_trans hi hv
      refine pool_mem (blocks Q) 32 (Q i) (lt_of_le_of_lt hi' hθ) ?_ ?_
      · have hlt : i.val / 2048 < 32 := by have := i.isLt; omega
        refine ⟨i.val / 2048, hlt, ⟨i.val % 2048, Nat.mod_lt _ (by norm_num)⟩, ?_⟩
        unfold blocks
        rw [dif_pos hlt]
        congr 1
        apply Fin.ext
        show 2048 * (i.val / 2048) + i.val % 2048 = i.val
        omega
      · rw [cntTo_blocks]
        exact le_trans (cnt_mono Q fun y hy => lt_of_lt_of_le hy hi') hc
    have hfun : ∀ i : Fin 65536, ∃ e, Q i ≤ v → poolSeq (blocks Q) 32 e = Q i := fun i => by
      by_cases h : Q i ≤ v
      · obtain ⟨e, he⟩ := hex i h; exact ⟨e, fun _ => he⟩
      · exact ⟨0, fun h' => absurd h' h⟩
    choose f hf using hfun
    rw [cnt_eq_card, cnt_eq_card]
    refine Finset.card_le_card_of_injOn f ?_ ?_
    · intro i hi
      simp only [coe_filter, mem_univ, true_and, Set.mem_setOf_eq] at hi ⊢
      rw [hf i hi]; exact hi
    · intro i hi j hj hij
      simp only [coe_filter, mem_univ, true_and, Set.mem_setOf_eq] at hi hj
      by_contra hne
      refine hd i j hne ?_ (le_trans hi hv)
      rw [← hf i hi, ← hf j hj, hij]

/-- The class's fifteen least values, taken out of its candidates one after another, are the class's. -/
theorem class_values (z : Fin 262144 → EReal) (w : Fin 192 → EReal) (m : ℕ → EReal) (L : EReal → EReal)
    (hL : ∀ x y, x ≤ y → L y ≤ L x)
    (hw : ∀ (e : Fin 48) (q : Fin 4), w (candRow e q) = poolSeq (blocks fun R => z (classRow R q)) 32 e)
    (hm : ∀ k v, v < ⊤ → (m k ≤ v ↔ k < cnt (· ≤ v) w))
    (y : Fin 4 → ℕ → EReal) (cut : EReal)
    (hy : ∀ q k, k < 16 → Rank (fun R => -z (classRow R q)) k (y q k))
    (hcut : Rank (fun i => -z i) 14 cut)
    (hap : ∀ q k, k < 15 → y q (k + 1) < y q k ∨ y q (k + 1) < cut)
    (k : ℕ) (hk : k < 15) : Rank (fun i => L (z i)) k (L (m k)) := by
  have hlt : ∀ x : EReal, x < -cut ↔ cut < -x := fun x => by
    constructor
    · intro h; exact EReal.lt_neg_comm.mp h
    · intro h; exact EReal.lt_neg_comm.mp h
  have hle : ∀ x : EReal, x ≤ -cut ↔ cut ≤ -x := fun x => by
    constructor
    · intro h; exact EReal.le_neg_of_le_neg h
    · intro h; exact EReal.le_neg_of_le_neg h
  have h14 : cnt (· < -cut) z ≤ 14 := le_trans (cnt_le fun i hi => (hlt _).mp hi) hcut.1
  have h15 : 15 ≤ cnt (· ≤ -cut) z := le_trans hcut.2 (cnt_le fun i hi => (hle _).mpr hi)
  have hd : ∀ q (i j : Fin 65536), i ≠ j → z (classRow i q) = z (classRow j q) → z (classRow i q) ≤ -cut → False := by
    intro q i j hij he hc
    refine distinct_of_apart (fun R => -z (classRow R q)) (y q) cut (hy q) (fun u hu => ?_) (hap q) i j hij
      (congrArg Neg.neg he) ((hle _).mp hc)
    refine le_trans (lane_le_class (fun x => u < -x) z q) (le_trans (cnt_le fun i hi => ?_) hcut.1)
    exact lt_of_le_of_lt hu hi
  have hθ : -cut < ⊤ := by
    rw [lt_top_iff_ne_top]
    intro htop
    rw [htop] at h14 hd
    have h1 : cnt (· < ⊤) (fun R => z (classRow R 0)) ≤ 14 := le_trans (lane_le_class _ z 0) h14
    have h2 : cnt (fun x => x = ⊤) (fun R => z (classRow R 0)) ≤ 1 := by
      classical
      rw [cnt_eq_card, Finset.card_le_one]
      intro i hi j hj
      simp only [mem_filter, mem_univ, true_and] at hi hj
      by_contra hne
      exact hd 0 i j hne (hi.trans hj.symm) le_top
    have h3 : cnt (· < ⊤) (fun R => z (classRow R 0)) + cnt (fun x => x = ⊤) (fun R => z (classRow R 0)) = 65536 := by
      classical
      rw [cnt_eq_card, cnt_eq_card]
      have hn : (univ.filter fun i : Fin 65536 => z (classRow i 0) = ⊤)
          = univ.filter fun i : Fin 65536 => ¬ z (classRow i 0) < ⊤ := by
        ext i; simp [lt_top_iff_ne_top]
      rw [hn, Finset.card_filter_add_card_filter_not]
      simp
    omega
  have heq : ∀ v, v ≤ -cut → cnt (· ≤ v) w = cnt (· ≤ v) z := fun v hv => by
    rw [cnt_cands, cnt_lanes]
    refine Finset.sum_congr rfl fun q _ => ?_
    rw [show (fun e => w (candRow e q)) = poolSeq (blocks fun R => z (classRow R q)) 32 from funext fun e => hw e q]
    exact lane_agree _ (-cut) hθ (le_trans (lane_le_class _ z q) h14) (hd q) v hv
  have hiff : ∀ v, v < ⊤ → (m k ≤ v ↔ k < cnt (· ≤ v) z) := fun v hv => by
    rw [hm k v hv]
    rcases le_total v (-cut) with h | h
    · rw [heq v h]
    · have e1 : 15 ≤ cnt (· ≤ v) z := le_trans h15 (cnt_mono z fun x hx => le_trans hx h)
      have e2 : 15 ≤ cnt (· ≤ v) w := le_trans (by rw [heq _ le_rfl]; exact h15) (cnt_mono w fun x hx => le_trans hx h)
      exact ⟨fun _ => by omega, fun _ => by omega⟩
  have hmk : m k < ⊤ := lt_of_le_of_lt ((hiff _ hθ).mpr (by omega)) hθ
  exact rank_antitone z L hL k (m k) (rank_bottom z k (m k) hmk hiff)

end Cert.Hardest
-- ==== Proof.Rows.lean ====
module

public import proofs.«01_k».proof.Proof.Counts
public import Idealize.ShloMosaic.Lib.SortFacts
public import Idealize.ShloMosaic.Lib.Pointwise.Index
public import Idealize.ShloMosaic.Lib.Pipeline.Value

/-!
The order statistics a top-k returns.
-/

@[expose] public section

noncomputable section

namespace Cert.Hardest

open Idealize.ShloMosaic

/-- A sort by the greater value first gives, at each position, the value of that rank. -/
theorem sorted_rank {n : ℕ} (f : Fin n → EReal) (k : Fin n) :
    Rank f k.val (f (sortedFrom (fun a b => Ideal.cmpTotal .gt (f a) (f b) == 1#1) k)) := by
  have hg : ∀ a b : Fin n, (Ideal.cmpTotal .gt (f a) (f b) == 1#1) = decide (f b < f a) := fun a b => by
    show (BitVec.ofBool (decide (f b < f a)) == 1#1) = _
    by_cases h : f b < f a <;> simp [h]
  rw [show (fun a b => Ideal.cmpTotal .gt (f a) (f b) == 1#1) = fun a b => decide (f b < f a) from
    funext fun a => funext fun b => hg a b]
  refine rank_of_sorted f (sortedFrom _) ⟨sortedFrom_injective _, sortedFrom_surjective _⟩ (fun i j hij => ?_) k
  have h := sortedFrom_noInversion (fun a b => decide (f b < f a)) (fun a b => decide (f b < f a))
    (fun a b h => by simp only [decide_eq_true_eq, decide_eq_false_iff_not, not_lt] at h ⊢; exact h.le)
    (fun a b h => h)
    (fun a b c h1 h2 => by
      simp only [decide_eq_false_iff_not, not_lt] at h1 h2 ⊢; exact le_trans h1 h2) i j hij
  simpa using h

/-- The entry of a top-k over a matrix's rows has the rank of its position in its row. -/
theorem topK_rank2 {a n k : ℕ} (x : (⟨2, ![a, n]⟩ : Shape).Idx → EReal)
    (h : Shape.Slices ⟨2, ![a, n]⟩ (fun _ => 0) ⟨2, ![a, k]⟩) (hkn : k ≤ n) (c : Fin a) (j : Fin k) :
    Rank (fun i => x (ix2 c i)) j.val
      ((Host.topK (s := ⟨2, ![a, n]⟩) ⟨2, ![a, k]⟩ 1 (Ideal.cmpTotal .gt) x h).1 (ix2 c j)) := by
  have key := sorted_rank (fun i : Fin n => x ((ix2 c (j.castLE hkn) : (⟨2, ![a, n]⟩ : Shape).Idx).along (1 : Fin 2) i)) (j.castLE hkn)
  unfold Host.topK
  dsimp only
  rw [extractStridedSlice_apply (fun _ => 0) _ h (ix2 c j) (ix2 c (j.castLE hkn)) (fun b => by
    fin_cases b
    · show c.val = 0 + c.val; omega
    · show j.val = 0 + j.val; omega)]
  unfold Host.sort2
  rw [dif_pos (show 1 < (⟨2, ![a, n]⟩ : Shape).rank from Nat.one_lt_two)]
  rw [show (fun i => x (ix2 c i)) = fun i : Fin n => x ((ix2 c (j.castLE hkn) : (⟨2, ![a, n]⟩ : Shape).Idx).along (1 : Fin 2) i) from
    funext fun i => congrArg x (by funext b; fin_cases b <;> rfl)]
  exact key

/-- The same over the last axis of a block of three axes. -/
theorem topK_rank3 {a b n k : ℕ} (x : (⟨3, ![a, b, n]⟩ : Shape).Idx → EReal)
    (h : Shape.Slices ⟨3, ![a, b, n]⟩ (fun _ => 0) ⟨3, ![a, b, k]⟩) (hkn : k ≤ n) (q : Fin a) (c : Fin b) (j : Fin k) :
    Rank (fun i => x (ix3 q c i)) j.val
      ((Host.topK (s := ⟨3, ![a, b, n]⟩) ⟨3, ![a, b, k]⟩ 2 (Ideal.cmpTotal .gt) x h).1 (ix3 q c j)) := by
  have key := sorted_rank (fun i : Fin n => x ((ix3 q c (j.castLE hkn) : (⟨3, ![a, b, n]⟩ : Shape).Idx).along (2 : Fin 3) i)) (j.castLE hkn)
  unfold Host.topK
  dsimp only
  rw [extractStridedSlice_apply (fun _ => 0) _ h (ix3 q c j) (ix3 q c (j.castLE hkn)) (fun e => by
    fin_cases e
    · show q.val = 0 + q.val; omega
    · show c.val = 0 + c.val; omega
    · show j.val = 0 + j.val; omega)]
  unfold Host.sort2
  rw [dif_pos (show 2 < (⟨3, ![a, b, n]⟩ : Shape).rank from (by decide : 2 < 3))]
  rw [show (fun i => x (ix3 q c i)) = fun i : Fin n => x ((ix3 q c (j.castLE hkn) : (⟨3, ![a, b, n]⟩ : Shape).Idx).along (2 : Fin 3) i) from
    funext fun i => congrArg x (by funext e; fin_cases e <;> rfl)]
  exact key

end Cert.Hardest
-- ==== Proof.Loss.lean ====
module

public import Idealize.ShloMosaic.PureOps.Ideal.Laws
public import Idealize.ShloMosaic.Lib.IdealHost

/-!
The loss of one example: the logistic function at the extended reals, the kernel's way of computing its
logarithm, and the reference's cross entropy.
-/

@[expose] public section

noncomputable section

namespace Cert.Hardest

open Idealize.ShloMosaic

/-- The logistic function of an extended real, as a real. -/
def sg (x : EReal) : ℝ := if x = ⊤ then 1 else if x = ⊥ then 0 else 1 / (1 + Real.exp (-x.toReal))

theorem sg_top : sg ⊤ = 1 := by simp [sg]
theorem sg_bot : sg ⊥ = 0 := by simp [sg]
theorem sg_coe (r : ℝ) : sg (r : EReal) = 1 / (1 + Real.exp (-r)) := by simp [sg]

theorem sg_nonneg (x : EReal) : 0 ≤ sg x := by
  induction x using EReal.rec with
  | bot => rw [sg_bot]
  | top => rw [sg_top]; norm_num
  | coe r => rw [sg_coe]; positivity

theorem sg_le_one (x : EReal) : sg x ≤ 1 := by
  induction x using EReal.rec with
  | bot => rw [sg_bot]; norm_num
  | top => rw [sg_top]
  | coe r =>
    rw [sg_coe, div_le_one (by positivity)]
    have := Real.exp_pos (-r); linarith

theorem sg_neg (x : EReal) : sg (-x) = 1 - sg x := by
  induction x using EReal.rec with
  | bot => rw [EReal.neg_bot, sg_bot, sg_top]; norm_num
  | top => rw [EReal.neg_top, sg_bot, sg_top]; norm_num
  | coe r =>
    rw [← EReal.coe_neg, sg_coe, sg_coe, neg_neg, Real.exp_neg]
    have := Real.exp_pos r
    field_simp
    ring

theorem sg_mono {x y : EReal} (h : x ≤ y) : sg x ≤ sg y := by
  induction y using EReal.rec with
  | top => rw [sg_top]; exact sg_le_one x
  | bot => rw [le_bot_iff.mp h]
  | coe s =>
    induction x using EReal.rec with
    | top => exact absurd h (by simp)
    | bot => rw [sg_bot]; exact sg_nonneg _
    | coe r =>
      rw [sg_coe, sg_coe]
      have hrs : r ≤ s := by exact_mod_cast h
      apply one_div_le_one_div_of_le
      · positivity
      · have := Real.exp_le_exp.mpr (neg_le_neg hrs); linarith

/-- The small number both programs add before a logarithm. -/
def eps : ℝ := 11258999 / 1125899906842624

theorem eps_pos : 0 < eps := by unfold eps; norm_num

theorem eps_f32 : Ideal.ofBits .f32 0x322BCC77#32 = (eps : EReal) := by
  unfold eps
  simp [Ideal.ofBits, Ideal.ieee, -EReal.coe_mul]; norm_num

theorem div_real (a b : ℝ) (hb : b ≠ 0) : Ideal.div (a : EReal) (b : EReal) = ((a / b : ℝ) : EReal) := by
  rw [Ideal.div_coe hb, ← EReal.coe_mul]; congr 1; field_simp

theorem log_real (a : ℝ) (ha : 0 < a) : Ideal.log (a : EReal) = (Real.log a : EReal) := by
  rw [Ideal.log_coe, if_neg (not_le.mpr ha)]

/-- The reference's logistic function is the logistic function. -/
theorem logistic_eq (x : EReal) : Ideal.div 1 (1 + Ideal.exp (-x)) = (sg x : EReal) := by
  induction x using EReal.rec with
  | bot =>
    rw [sg_bot, EReal.neg_bot, Ideal.exp_top, EReal.add_top_of_ne_bot (by rw [← EReal.coe_one]; exact EReal.coe_ne_bot 1)]
    simp [Ideal.div]
  | top => rw [sg_top, EReal.neg_top, Ideal.exp_bot, add_zero]; simp [Ideal.div]
  | coe r =>
    rw [← EReal.coe_neg, Ideal.exp_coe, ← EReal.coe_one, ← EReal.coe_add, div_real _ _ (by positivity), sg_coe]

/-- The kernel's two-branch logistic function is the logistic function. -/
theorem branches_eq (m : EReal) :
    Scalar.select (Ideal.cmp .oge m 0) (Ideal.div 1 (1 + Ideal.exp (0 - max m (-m))))
      (Ideal.div (Ideal.exp (0 - max m (-m))) (1 + Ideal.exp (0 - max m (-m)))) = (sg m : EReal) := by
  rcases le_total 0 m with h | h
  · have hm : max m (-m) = m := max_eq_left (le_trans (EReal.neg_le_neg_iff.mpr h |>.trans (by simp)) h)
    rw [hm, zero_sub]
    by_cases h' : (0 : EReal) ≤ m
    · simp only [Ideal.cmp, h', decide_true]
      exact logistic_eq m
    · exact absurd h h'
  · have hm : max m (-m) = -m := max_eq_right (le_trans h (by simpa using EReal.neg_le_neg_iff.mpr h))
    rw [hm, zero_sub, neg_neg]
    by_cases h' : (0 : EReal) ≤ m
    · have h0 : m = 0 := le_antisymm h h'
      subst h0
      simp only [Ideal.cmp, le_refl, decide_true]
      have := logistic_eq 0
      rw [neg_zero] at this
      exact this
    · simp only [Ideal.cmp, h', decide_false]
      show Ideal.div (Ideal.exp m) (1 + Ideal.exp m) = _
      induction m using EReal.rec with
      | top => exact absurd le_top h'
      | bot => rw [sg_bot, Ideal.exp_bot, add_zero]; simp [Ideal.div]
      | coe r =>
        rw [Ideal.exp_coe, ← EReal.coe_one, ← EReal.coe_add, div_real _ _ (by positivity), sg_coe, Real.exp_neg]
        congr 1
        have := Real.exp_pos r
        field_simp
        ring

/-- The loss of an example whose signed logit is given. -/
def lossR (m : EReal) : ℝ := -Real.log (sg m + eps)

/-- The same loss as an extended real. -/
def lossE (m : EReal) : EReal := (lossR m : EReal)

theorem lossE_antitone (x y : EReal) (h : x ≤ y) : lossE y ≤ lossE x := by
  unfold lossE lossR
  have h1 := sg_mono h
  have h2 := sg_nonneg x
  have h3 := eps_pos
  exact_mod_cast neg_le_neg (Real.log_le_log (by linarith) (by linarith))

theorem log_sg (m : EReal) : Ideal.log ((sg m : EReal) + Ideal.ofBits .f32 0x322BCC77#32) = -lossE m := by
  have h2 := sg_nonneg m
  have h3 := eps_pos
  rw [eps_f32, ← EReal.coe_add, log_real _ (by linarith)]
  unfold lossE lossR
  rw [← EReal.coe_neg, neg_neg]

/-- The reference's cross entropy at a target of one. -/
theorem loss_one (x A : EReal) (hA : A = (1 : EReal)) :
    -(A * Ideal.log (Ideal.div 1 (1 + Ideal.exp (-x)) + Ideal.ofBits .f32 0x322BCC77#32)
      + (1 - A) * Ideal.log ((1 - Ideal.div 1 (1 + Ideal.exp (-x))) + Ideal.ofBits .f32 0x322BCC77#32)) = lossE x := by
  subst hA
  have h0 : (1 : EReal) - 1 = 0 := by rw [← EReal.coe_one, ← EReal.coe_sub, sub_self, EReal.coe_zero]
  rw [h0, zero_mul, add_zero, one_mul, logistic_eq, log_sg, neg_neg]

/-- The reference's cross entropy at a target of zero. -/
theorem loss_zero (x A : EReal) (hA : A = (0 : EReal)) :
    -(A * Ideal.log (Ideal.div 1 (1 + Ideal.exp (-x)) + Ideal.ofBits .f32 0x322BCC77#32)
      + (1 - A) * Ideal.log ((1 - Ideal.div 1 (1 + Ideal.exp (-x))) + Ideal.ofBits .f32 0x322BCC77#32)) = lossE (-x) := by
  subst hA
  have h0 : (1 : EReal) - ((sg x : ℝ) : EReal) = ((sg (-x) : ℝ) : EReal) := by
    rw [← EReal.coe_one, ← EReal.coe_sub, sg_neg]
  rw [sub_zero, zero_mul, zero_add, one_mul, logistic_eq, h0, log_sg, neg_neg]

/-- The margin the kernel computes: the logit at a target of one, its negation at a target of zero. -/
theorem signed_one (x A : EReal) (hA : A = (1 : EReal)) : (((2 : ℝ) : EReal) * A - 1) * x = x := by
  subst hA
  have h0 : ((2 : ℝ) : EReal) * 1 - 1 = 1 := by
    rw [mul_one, ← EReal.coe_one, ← EReal.coe_sub]; norm_num
  rw [h0, one_mul]

theorem signed_zero (x A : EReal) (hA : A = (0 : EReal)) : (((2 : ℝ) : EReal) * A - 1) * x = -x := by
  subst hA
  rw [mul_zero, zero_sub, neg_mul, one_mul]

end Cert.Hardest
-- ==== Proof.Meaning.lean ====
module

public import proofs.«01_k».proof.Pre_hardest_do_not_tie
public import proofs.«01_k».proof.Proof.Agree
public import proofs.«01_k».proof.Proof.Rows
public import proofs.«01_k».proof.Proof.Loss

/-!
What the precondition says of the two argument arrays.
-/

@[expose] public section

noncomputable section

namespace Cert.Pre_hardest_do_not_tie

open Idealize.ShloMosaic Cert.Hardest

/-- The shape relations the condition takes. -/
instance facts : Facts where
  bcast_S_S262144x32 := by decide
  shapeCasts_S262144x32_S65536x4x32 := by decide
  transposes_S65536x4x32_S4x32x65536_1_2_0 := by decide
  sliceFits_S4x32x65536_S4x32x16 := by decide
  transposes_S262144x32_S32x262144_1_0 := by decide
  sliceFits_S32x262144_S32x15 := by decide
  slices_S32x15_S32x1_0_14 := by decide
  bcast_S32x1_S1x32x1_1_2 := by decide
  slices_S4x32x16_S4x32x15_0_0_0 := by decide
  slices_S4x32x16_S4x32x15_0_0_1 := by decide
  bcast_S1x32x1_S4x32x15_0_1_2 := by decide

open Facts

/-- The logits signed against the targets. -/
def margin (x t : Vec Ideal S262144x32 .f32) : Vec Ideal S262144x32 .f32 :=
  select (cmpf (F := Ideal) (φ := .f32) .oeq t (broadcastInDim S262144x32 ![] bcast_S_S262144x32 (constant (F := Ideal) S_ .f32 0x3F800000#32)))
    (Host.negf (F := Ideal) (φ := .f32) x) x

/-- Each lane's sixteen greatest margins. -/
def hardest (x t : Vec Ideal S262144x32 .f32) : Vec Ideal S4x32x16 .f32 :=
  (Host.topK S4x32x16 2 (Ideal.cmpTotal .gt)
    (transpose S4x32x65536 [1, 2, 0] (shapeCast S65536x4x32 (margin x t) shapeCasts_S262144x32_S65536x4x32)
      transposes_S65536x4x32_S4x32x65536_1_2_0) sliceFits_S4x32x65536_S4x32x16).1

/-- Each class's fifteen greatest margins. -/
def greatest (x t : Vec Ideal S262144x32 .f32) : Vec Ideal S32x15 .f32 :=
  (Host.topK S32x15 1 (Ideal.cmpTotal .gt)
    (transpose S32x262144 [1, 0] (margin x t) transposes_S262144x32_S32x262144_1_0) sliceFits_S32x262144_S32x15).1

theorem bit_or {a b : Bool} (h : IntOp.ori (BitVec.ofBool a) (BitVec.ofBool b) = 1#1) : a = true ∨ b = true := by
  revert h; cases a <;> cases b <;> decide

theorem binary (x t : Vec Ideal S262144x32 .f32) (h : (fn (F := Ideal) x t).1 = fun _ => 1#1) (i : S262144x32.Idx) :
    (t i : EReal) = 0 ∨ (t i : EReal) = 1 := by
  have h0 := congrFun h i
  unfold fn fn_part1 at h0
  dsimp only at h0
  have h1 : IntOp.ori (BitVec.ofBool (decide ((t i : EReal) = Ideal.ofBits .f32 0x00000000#32)))
      (BitVec.ofBool (decide ((t i : EReal) = Ideal.ofBits .f32 0x3F800000#32))) = 1#1 := h0
  rw [Ideal.ofBits_zero_f32, Ideal.ofBits_one_f32] at h1
  rcases bit_or h1 with h | h
  · exact Or.inl (of_decide_eq_true h)
  · exact Or.inr (of_decide_eq_true h)

theorem apart (x t : Vec Ideal S262144x32 .f32) (h : (fn (F := Ideal) x t).2 = fun _ => 1#1) (q : Fin 4) (c : Fin 32) (k : Fin 15) :
    (hardest x t (ix3 q c k.succ) : EReal) < hardest x t (ix3 q c k.castSucc)
      ∨ (hardest x t (ix3 q c k.succ) : EReal) < greatest x t (ix2 c 14) := by
  have h0 := congrFun h (ix3 q c k)
  unfold fn fn_part1 fn_where at h0
  dsimp only at h0
  have e0 : extractStridedSlice S4x32x15 ![0, 0, 0] (hardest x t) slices_S4x32x16_S4x32x15_0_0_0 (ix3 q c k)
      = hardest x t (ix3 q c k.castSucc) :=
    extractStridedSlice_apply _ _ _ _ _ fun a => by
      fin_cases a
      · show q.val = 0 + q.val; omega
      · show c.val = 0 + c.val; omega
      · show k.val = 0 + k.val; omega
  have e1 : extractStridedSlice S4x32x15 ![0, 0, 1] (hardest x t) slices_S4x32x16_S4x32x15_0_0_1 (ix3 q c k)
      = hardest x t (ix3 q c k.succ) :=
    extractStridedSlice_apply _ _ _ _ _ fun a => by
      fin_cases a
      · show q.val = 0 + q.val; omega
      · show c.val = 0 + c.val; omega
      · show k.val + 1 = 1 + k.val; omega
  have e2 : broadcastInDim S4x32x15 ![0, 1, 2] bcast_S1x32x1_S4x32x15_0_1_2
      (broadcastInDim S1x32x1 ![1, 2] bcast_S32x1_S1x32x1_1_2
        (extractStridedSlice S32x1 ![0, 14] (greatest x t) slices_S32x15_S32x1_0_14)) (ix3 q c k) = greatest x t (ix2 c 14) := by
    rw [broadcastInDim_apply _ _ _ (ix3 q c k) (ix3 (0 : Fin 1) c (0 : Fin 1)) (fun a => by fin_cases a <;> rfl)]
    rw [broadcastInDim_apply _ _ _ (ix3 (0 : Fin 1) c (0 : Fin 1)) (ix2 c (0 : Fin 1)) (fun a => by fin_cases a <;> rfl)]
    refine extractStridedSlice_apply _ _ _ _ _ fun a => ?_
    fin_cases a
    · show c.val = 0 + c.val; omega
    · rfl
  have h1 : IntOp.ori
      (BitVec.ofBool (decide (extractStridedSlice S4x32x15 ![0, 0, 1] (hardest x t) slices_S4x32x16_S4x32x15_0_0_1 (ix3 q c k)
        < extractStridedSlice S4x32x15 ![0, 0, 0] (hardest x t) slices_S4x32x16_S4x32x15_0_0_0 (ix3 q c k))))
      (BitVec.ofBool (decide (extractStridedSlice S4x32x15 ![0, 0, 1] (hardest x t) slices_S4x32x16_S4x32x15_0_0_1 (ix3 q c k)
        < broadcastInDim S4x32x15 ![0, 1, 2] bcast_S1x32x1_S4x32x15_0_1_2
      (broadcastInDim S1x32x1 ![1, 2] bcast_S32x1_S1x32x1_1_2
        (extractStridedSlice S32x1 ![0, 14] (greatest x t) slices_S32x15_S32x1_0_14)) (ix3 q c k)))) = 1#1 := h0
  rw [e0, e1, e2] at h1
  rcases bit_or h1 with h | h
  · exact Or.inl (of_decide_eq_true h)
  · exact Or.inr (of_decide_eq_true h)

/-- The logit signed with its target: what the kernel selects by. -/
def signed (x t : Vec Ideal S262144x32 .f32) (i : S262144x32.Idx) : EReal := (((2 : ℝ) : EReal) * t i - 1) * x i

theorem margin_apply (x t : Vec Ideal S262144x32 .f32) (i : S262144x32.Idx) (h : (t i : EReal) = 0 ∨ (t i : EReal) = 1) :
    (margin x t i : EReal) = -signed x t i := by
  have e : (margin x t i : EReal) = Scalar.select (BitVec.ofBool (decide ((t i : EReal) = Ideal.ofBits .f32 0x3F800000#32))) (-(x i : EReal)) (x i) := rfl
  rw [e, Ideal.ofBits_one_f32]
  unfold signed
  rcases h with h | h
  · rw [signed_zero _ _ h, neg_neg, h]
    simp [Scalar.select]
  · rw [signed_one _ _ h, h]
    simp [Scalar.select]

theorem hardest_rank (x t : Vec Ideal S262144x32 .f32) (q : Fin 4) (c : Fin 32) (k : Fin 16) :
    Rank (fun R => (margin x t (ix2 (classRow R q) c) : EReal)) k.val (hardest x t (ix3 q c k)) := by
  have key := topK_rank3 (a := 4) (b := 32) (n := 65536) (k := 16)
    (transpose S4x32x65536 [1, 2, 0] (shapeCast S65536x4x32 (margin x t) shapeCasts_S262144x32_S65536x4x32)
      transposes_S65536x4x32_S4x32x65536_1_2_0) sliceFits_S4x32x65536_S4x32x16 (by norm_num) q c k
  have e : (fun R => (margin x t (ix2 (classRow R q) c) : EReal)) = fun R : Fin 65536 =>
      transpose S4x32x65536 [1, 2, 0] (shapeCast S65536x4x32 (margin x t) shapeCasts_S262144x32_S65536x4x32)
      transposes_S65536x4x32_S4x32x65536_1_2_0 (ix3 q c R) := funext fun R => by
    rw [transpose_apply _ _ _ (ix3 q c R) (ix3 R q c) (fun b => by fin_cases b <;> rfl)]
    refine (shapeCast_apply _ _ (ix3 R q c) (ix2 (classRow R q) c) ?_).symm
    rw [Shape.rowMajor_val_two, Shape.rowMajor_val_three]
    show (4 * R.val + q.val) * 32 + c.val = (R.val * 4 + q.val) * 32 + c.val
    omega
  rw [e]
  exact key

theorem greatest_rank (x t : Vec Ideal S262144x32 .f32) (c : Fin 32) (k : Fin 15) :
    Rank (fun i => (margin x t (ix2 i c) : EReal)) k.val (greatest x t (ix2 c k)) := by
  have key := topK_rank2 (a := 32) (n := 262144) (k := 15)
    (transpose S32x262144 [1, 0] (margin x t) transposes_S262144x32_S32x262144_1_0) sliceFits_S32x262144_S32x15 (by norm_num) c k
  have e : (fun i => (margin x t (ix2 i c) : EReal)) = fun i : Fin 262144 =>
      transpose S32x262144 [1, 0] (margin x t) transposes_S262144x32_S32x262144_1_0 (ix2 c i) := funext fun i => by
    rw [transpose_apply _ _ _ (ix2 c i) (ix2 i c) (fun b => by fin_cases b <;> rfl)]
  rw [e]
  exact key

/-- Under the precondition a class's fifteen hardest examples are those its candidates give up one by one. -/
theorem class_of_pre (x t : Vec Ideal S262144x32 .f32)
    (h1 : (fn (F := Ideal) x t).1 = fun _ => 1#1) (h2 : (fn (F := Ideal) x t).2 = fun _ => 1#1)
    (c : Fin 32) (w : Fin 192 → EReal) (m : ℕ → EReal)
    (hw : ∀ (e : Fin 48) (q : Fin 4), w (candRow e q) = poolSeq (blocks fun R => signed x t (ix2 (classRow R q) c)) 32 e)
    (hm : ∀ k v, v < ⊤ → (m k ≤ v ↔ k < cnt (· ≤ v) w))
    (k : ℕ) (hk : k < 15) : Rank (fun i => lossE (signed x t (ix2 i c))) k (lossE (m k)) := by
  have hmar : ∀ i, (margin x t i : EReal) = -signed x t i := fun i => margin_apply x t i (binary x t h1 i)
  refine class_values (fun i => signed x t (ix2 i c)) w m lossE lossE_antitone hw hm
    (fun q k => if h : k < 16 then hardest x t (ix3 q c ⟨k, h⟩) else ⊤) (greatest x t (ix2 c 14)) ?_ ?_ ?_ k hk
  · intro q k hk
    rw [dif_pos hk]
    have := hardest_rank x t q c ⟨k, hk⟩
    simp only [hmar] at this
    exact this
  · have := greatest_rank x t c 14
    simp only [hmar] at this
    exact this
  · intro q k hk
    rw [dif_pos (show k < 16 by omega), dif_pos (show k + 1 < 16 by omega)]
    exact apart x t h2 q c ⟨k, hk⟩

end Cert.Pre_hardest_do_not_tie
-- ==== Proof.Reference.lean ====
module

public import proofs.«01_k».proof.Proof.Gen.ReferenceIdeal.Run
public import proofs.«01_k».proof.Proof.Meaning
public import Idealize.ShloMosaic.Lib.Pointwise.Reduce

/-!
The reference's value: the mean over the classes of the mean of each class's fifteen greatest losses.
-/

@[expose] public section

noncomputable section

namespace Cert.ReferenceIdeal.Gen

open Idealize.ShloMosaic Cert.Hardest
open Cert.Pre_hardest_do_not_tie (signed)

/-- A number at every position of the arguments' shape. -/
abbrev every (b : BitVec 32) : Vec Ideal S262144x32 .f32 :=
  broadcastInDim S262144x32 ![] bcast_S_S262144x32 (constant (F := Ideal) S_ .f32 b)

/-- The reference's probabilities. -/
abbrev probs (x : Vec Ideal S262144x32 .f32) : Vec Ideal S262144x32 .f32 :=
  Host.divf (F := Ideal) (φ := .f32) (every 0x3F800000#32)
    (addf (F := Ideal) (φ := .f32) (every 0x3F800000#32) (Host.exp (F := Ideal) (φ := .f32) (Host.negf (F := Ideal) (φ := .f32) x)))

/-- The reference's masked losses. -/
def losses (x t : Vec Ideal S262144x32 .f32) : Vec Ideal S262144x32 .f32 :=
  select (cmpf (F := Ideal) (φ := .f32) .une t (every 0xBF800000#32))
    (Host.negf (F := Ideal) (φ := .f32) (addf (F := Ideal) (φ := .f32)
      (mulf (F := Ideal) (φ := .f32) t (Host.log (F := Ideal) (φ := .f32) (addf (F := Ideal) (φ := .f32) (probs x) (every 0x322BCC77#32))))
      (mulf (F := Ideal) (φ := .f32) (subf (F := Ideal) (φ := .f32) (every 0x3F800000#32) t)
        (Host.log (F := Ideal) (φ := .f32) (addf (F := Ideal) (φ := .f32) (subf (F := Ideal) (φ := .f32) (every 0x3F800000#32) (probs x)) (every 0x322BCC77#32))))))
    (broadcastInDim S262144x32 ![] bcast_S_S262144x32 (id (constant (F := Ideal) S_ .f32 0xFF800000#32)))

/-- Each class's fifteen greatest losses. -/
def top (x t : Vec Ideal S262144x32 .f32) : Vec Ideal S32x15 .f32 :=
  (Host.topK S32x15 1 (FloatOps.cmpfTotal (F := Ideal) (φ := .f32) .gt) (transpose S32x262144 [1, 0] (losses x t) transposes_S262144x32_S32x262144_1_0)
    sliceFits_S32x262144_S32x15).1

/-- The reference's scalar from the greatest losses. -/
def mean (y : Vec Ideal S32x15 .f32) : Vec Ideal S_ .f32 :=
  Host.divf (F := Ideal) (φ := .f32) (Host.reduceAdd (F := Ideal) (φ := .f32) (Host.divf (F := Ideal) (φ := .f32)
    (Host.reduceAdd (F := Ideal) (φ := .f32) y (constant (F := Ideal) S_ .f32 0x00000000#32) reducesTo_S32x15_S32_d1 h_S_)
    (broadcastInDim S32 ![] bcast_S_S32 (constant (F := Ideal) S_ .f32 0x41700000#32)))
    (constant (F := Ideal) S_ .f32 0x00000000#32) reducesTo_S32_S_d0 h_S_) (constant (F := Ideal) S_ .f32 0x42000000#32)

theorem minus_one_f32 : Ideal.ofBits .f32 0xBF800000#32 = ((-1 : ℝ) : EReal) := by
  simp [Ideal.ofBits, Ideal.ieee, -EReal.coe_mul]; try norm_num

theorem losses_apply (x t : Vec Ideal S262144x32 .f32) (i : S262144x32.Idx) (h : (t i : EReal) = 0 ∨ (t i : EReal) = 1) :
    (losses x t i : EReal) = lossE (signed x t i) := by
  have e : (losses x t i : EReal) = Scalar.select (BitVec.ofBool (decide ((t i : EReal) ≠ Ideal.ofBits .f32 0xBF800000#32)))
      (-((t i : EReal) * Ideal.log (Ideal.div (Ideal.ofBits .f32 0x3F800000#32) (Ideal.ofBits .f32 0x3F800000#32 + Ideal.exp (-(x i : EReal))) + Ideal.ofBits .f32 0x322BCC77#32)
      + (Ideal.ofBits .f32 0x3F800000#32 - t i) * Ideal.log ((Ideal.ofBits .f32 0x3F800000#32 - Ideal.div (Ideal.ofBits .f32 0x3F800000#32) (Ideal.ofBits .f32 0x3F800000#32 + Ideal.exp (-(x i : EReal)))) + Ideal.ofBits .f32 0x322BCC77#32)))
      (Ideal.ofBits .f32 0xFF800000#32) := rfl
  rw [e, Ideal.ofBits_one_f32, minus_one_f32]
  have hne : (t i : EReal) ≠ ((-1 : ℝ) : EReal) := by
    rcases h with h | h
    · rw [h, ← EReal.coe_zero]; intro hc; have := EReal.coe_injective hc; norm_num at this
    · rw [h, ← EReal.coe_one]; intro hc; have := EReal.coe_injective hc; norm_num at this
  rw [decide_eq_true hne]
  unfold signed
  rcases h with h | h
  · rw [signed_zero _ _ h]; exact loss_zero _ _ h
  · rw [signed_one _ _ h]; exact loss_one _ _ h

theorem top_rank (x t : Vec Ideal S262144x32 .f32) (c : Fin 32) (k : Fin 15)
    (h : ∀ i, (t i : EReal) = 0 ∨ (t i : EReal) = 1) :
    Rank (fun i => lossE (signed x t (ix2 i c))) k.val (top x t (ix2 c k)) := by
  have key := topK_rank2 (a := 32) (n := 262144) (k := 15)
    (transpose S32x262144 [1, 0] (losses x t) transposes_S262144x32_S32x262144_1_0) sliceFits_S32x262144_S32x15 (by norm_num) c k
  have e : (fun i => lossE (signed x t (ix2 i c))) = fun i : Fin 262144 =>
      transpose S32x262144 [1, 0] (losses x t) transposes_S262144x32_S32x262144_1_0 (ix2 c i) := funext fun i => by
    rw [transpose_apply _ _ _ (ix2 c i) (ix2 i c) (fun b => by fin_cases b <;> rfl), losses_apply x t _ (h _)]
  rw [e]
  exact key

theorem fifteen_f32 : Ideal.ofBits .f32 0x41700000#32 = ((15 : ℝ) : EReal) := by
  simp [Ideal.ofBits, Ideal.ieee, -EReal.coe_mul]; norm_num
theorem thirtytwo_f32 : Ideal.ofBits .f32 0x42000000#32 = ((32 : ℝ) : EReal) := by
  simp [Ideal.ofBits, Ideal.ieee, -EReal.coe_mul]; norm_num

theorem mean_apply (y : Vec Ideal S32x15 .f32) (i : S_.Idx) :
    mean y i = Ideal.div (∑ c : Fin 32, Ideal.div (∑ k : Fin 15, (y (ix2 c k) : EReal)) ((15 : ℝ) : EReal)) ((32 : ℝ) : EReal) := by
  rw [← fifteen_f32, ← thirtytwo_f32]
  show Ideal.div (Ideal.hostReduceAdd reducesTo_S32_S_d0 _ (Ideal.ofBits .f32 0x00000000#32) i) _ = _
  congr 1
  rw [Ideal.hostReduceAdd_r1_a0, Ideal.ofBits_zero_f32, zero_add]
  refine Finset.sum_congr rfl fun c _ => ?_
  show Ideal.div (Ideal.hostReduceAdd reducesTo_S32x15_S32_d1 y (Ideal.ofBits .f32 0x00000000#32) _) _ = _
  congr 1
  rw [Ideal.hostReduceAdd_r2_a1, Ideal.ofBits_zero_f32, zero_add]
  rfl

end Cert.ReferenceIdeal.Gen
-- ==== Proof.Value.lean ====
module

public import proofs.«01_k».proof.Proof.KernelRun
public import proofs.«01_k».proof.Proof.Reference

/-!
The kernel's result and the reference's are the same number.
-/

@[expose] public section

noncomputable section

open Idealize.ShloMosaic Idealize.ShloMosaic.TcCoe Idealize.SL.Sem

namespace Cert.KernelIdeal.Gen

open Cert.Hardest
open Cert.Pre_hardest_do_not_tie (signed)

theorem klog_eq (m : EReal) : klog m = -lossE m := by
  unfold klog
  rw [branches_eq, log_sg]

/-- A column's total is the sum of the losses of the values taken out. -/
theorem total_eq (x : FVec Ideal S192x32 .f32) (c : Fin 32) (n : ℕ) :
    total x c n = ∑ k ∈ Finset.range n, lossE (mn (cl (zs x k) c)) := by
  induction n with
  | zero => rfl
  | succ n ih =>
    show total x c n - klog (mn (cl (zs x n) c)) = _
    rw [ih, klog_eq, sub_eq_add_neg, neg_neg, Finset.sum_range_succ]

/-- The lane of the kernel's layout that holds a class's rows of one remainder. -/
def laneOf (q : Fin 4) (c : Fin 32) : Fin 128 := ⟨32 * q.val + c.val, by have := q.isLt; have := c.isLt; omega⟩

variable (m : (ℓ : Loc nD τ sig) → Buf (Elt Ideal) ℓ) (ρ : Dev nD → PrngReg)

/-- The logits and the targets as matrices. -/
abbrev logits (d : Dev nD) : Vec Ideal S262144x32 .f32 := m ((d.tc : Thread nD τ).loc main_arg0)
abbrev targets (d : Dev nD) : Vec Ideal S262144x32 .f32 := m ((d.tc : Thread nD τ).loc main_arg1)

theorem laid_out (x : Vec Ideal S262144x32 .f32) (R : Fin 65536) (q : Fin 4) (c : Fin 32) :
    shapeCast S65536x128 x shapeCasts_S262144x32_S65536x128 (ix2 R (laneOf q c)) = x (ix2 (classRow R q) c) := by
  refine shapeCast_apply _ _ _ _ ?_
  rw [Shape.rowMajor_val_two, Shape.rowMajor_val_two]
  show (4 * R.val + q.val) * 32 + c.val = R.val * 128 + (32 * q.val + c.val)
  omega

theorem lane_blocks (d : Dev nD) (q : Fin 4) (c : Fin 32) :
    laneBlocks (V1 m ρ) d (laneOf q c)
      = blocks fun R => signed (logits m d) (targets m d) (ix2 (classRow R q) c) := by
  funext s r
  have hN : cfg0.N = 32 := N_0
  unfold blocks
  by_cases hs : s < 32
  · rw [dif_pos hs, laneBlocks_apply (V1 m ρ) d (laneOf q c) s (by rw [hN]; exact hs) r, V1_logits, V1_targets]
    have hx := laid_out (logits m d) (laneRow s hs r) q c
    have ht := laid_out (targets m d) (laneRow s hs r) q c
    show _ = (((2 : ℝ) : EReal) * targets m d (ix2 (classRow (laneRow s hs r) q) c) - 1)
      * logits m d (ix2 (classRow (laneRow s hs r) q) c)
    rw [← hx, ← ht]
    rfl
  · rw [dif_neg hs]
    unfold laneBlocks
    rw [dif_neg (by rw [hN]; exact hs)]

/-- A class's candidates are the pools of its four lanes. -/
theorem cands_apply (d : Dev nD) (e : Fin 48) (q : Fin 4) (c : Fin 32) :
    cl (V3 m ρ d main_v3) c (candRow e q)
      = poolSeq (blocks fun R => signed (logits m d) (targets m d) (ix2 (classRow R q) c)) 32 e := by
  unfold cl
  rw [V3_cands]
  rw [shapeCast_apply _ _ (ix2 (candRow e q) c) (ix2 e (laneOf q c)) (by
    rw [Shape.rowMajor_val_two, Shape.rowMajor_val_two]
    show e.val * 128 + (32 * q.val + c.val) = (4 * e.val + q.val) * 32 + c.val
    omega)]
  rw [← lane_blocks m ρ d q c]
  exact congrFun (pool_after (V1 m ρ) d (laneOf q c) 31 lastPt.isLt) e

theorem f480 : Ideal.ofBits .f32 0x43F00000#32 = ((480 : ℝ) : EReal) := by
  simp [Ideal.ofBits, Ideal.ieee, -EReal.coe_mul]; norm_num

theorem sum_real {ι : Type} (s : Finset ι) (f : ι → ℝ) : ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The two ways of averaging are one. -/
theorem averages (f : Fin 32 → Fin 15 → ℝ) :
    Ideal.div (∑ c, ∑ k, (f c k : EReal)) ((480 : ℝ) : EReal)
      = Ideal.div (∑ c, Ideal.div (∑ k, (f c k : EReal)) ((15 : ℝ) : EReal)) ((32 : ℝ) : EReal) := by
  simp only [sum_real]
  rw [div_real _ _ (by norm_num)]
  simp only [div_real _ (15 : ℝ) (by norm_num)]
  simp only [sum_real]
  rw [div_real _ _ (by norm_num), ← Finset.sum_div]
  congr 1
  ring

/-- Under the precondition the kernel's result is the reference's. -/
theorem result_eq (d : Dev nD)
    (h1 : (Cert.Pre_hardest_do_not_tie.fn (F := Ideal) (logits m d) (targets m d)).1 = fun _ => 1#1)
    (h2 : (Cert.Pre_hardest_do_not_tie.fn (F := Ideal) (logits m d) (targets m d)).2 = fun _ => 1#1) :
    result m ρ d = Cert.ReferenceIdeal.Gen.mean (Cert.ReferenceIdeal.Gen.top (logits m d) (targets m d)) := by
  have hy : ∀ (c : Fin 32) (k : Fin 15), (Cert.ReferenceIdeal.Gen.top (logits m d) (targets m d) (ix2 c k) : EReal)
      = lossE (mn (cl (zs (V3 m ρ d main_v3) k.val) c)) := fun c k =>
    Rank.unique
      (Cert.ReferenceIdeal.Gen.top_rank (logits m d) (targets m d) c k
        (Cert.Pre_hardest_do_not_tie.binary (logits m d) (targets m d) h1))
      (Cert.Pre_hardest_do_not_tie.class_of_pre (logits m d) (targets m d) h1 h2 c (cl (V3 m ρ d main_v3) c)
        (fun k => mn (cl (zs (V3 m ρ d main_v3) k) c)) (fun e q => cands_apply m ρ d e q c)
        (fun k v hv => round_le_iff (V3 m ρ d main_v3) c v hv k) k.val k.isLt)
  refine funext fun (i : S_.Idx) => ?_
  rw [Cert.ReferenceIdeal.Gen.mean_apply]
  simp only [hy]
  unfold result
  rw [final_value]
  refine (shapeCast_apply (s := S1x1) (t := S_) _ _ i (ix2 (0 : Fin 1) (0 : Fin 1)) (by
    have a := (S_.rowMajor i).isLt
    have b := (S1x1.rowMajor (ix2 (0 : Fin 1) (0 : Fin 1))).isLt
    have ha : S_.numel = 1 := by decide
    have hb : S1x1.numel = 1 := by decide
    omega)).trans ?_
  rw [avg32_apply, f480]
  simp only [tot_apply, total_eq, Finset.sum_range]
  exact averages fun c k => lossR (mn (cl (zs (V3 m ρ d main_v3) k.val) c))

end Cert.KernelIdeal.Gen
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- The reference runs, its arguments unchanged and every counter at zero. -/
theorem reference_frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- Under the precondition the kernel and the reference return the same number. -/
theorem same_value : Cert.algebraic_KernelIdeal_ReferenceIdeal_pre_hardest_do_not_tie := by
  intro m g m' g' hpre hargs
  refine ⟨fun c => Cert.KernelIdeal.Gen.result m g c, Cert.KernelIdeal.Gen.run m g, ?_⟩
  refine (θ_run Cert.ReferenceIdeal.defs _ _).mono (fun r h c => ⟨?_, (h c).2⟩)
    (Cert.ReferenceIdeal.Value.run (F := Ideal) m' g')
  refine (h c).1.trans ?_
  rw [(hargs c).1, (hargs c).2]
  exact (Cert.KernelIdeal.Gen.result_eq m g c (hpre c).1 (hpre c).2).symm

theorem claim : Cert.Claim := ⟨Cert.Kernel.Gen.facts, Cert.KernelIdeal.Gen.facts, Cert.ReferenceIdeal.Gen.facts,
  Cert.Pre_hardest_do_not_tie.facts,
  fun m ρ _ => Cert.Kernel.Gen.frame m ρ, fun m ρ _ => Cert.KernelIdeal.Gen.frame m ρ,
  fun m ρ _ => Cert.KernelIdeal.Gen.frame m ρ, reference_frame, fun m ρ _ => reference_frame m ρ trivial, trivial,
  same_value⟩

end Cert.Proof

end
